-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x1536 : Shape := ⟨3, ![16, 1024, 1536]⟩
abbrev S768x8960 : Shape := ⟨2, ![768, 8960]⟩
abbrev S12x8960 : Shape := ⟨2, ![12, 8960]⟩
abbrev S1536x64 : Shape := ⟨2, ![1536, 64]⟩
abbrev S64x8960 : Shape := ⟨2, ![64, 8960]⟩
abbrev S8960 : Shape := ⟨1, ![8960]⟩
abbrev S16384x1536 : Shape := ⟨2, ![16384, 1536]⟩
abbrev S1x8960 : Shape := ⟨2, ![1, 8960]⟩
abbrev S16384x8960 : Shape := ⟨2, ![16384, 8960]⟩
abbrev S1024x1536 : Shape := ⟨2, ![1024, 1536]⟩
abbrev S768x1280 : Shape := ⟨2, ![768, 1280]⟩
abbrev S12x1280 : Shape := ⟨2, ![12, 1280]⟩
abbrev S64x1280 : Shape := ⟨2, ![64, 1280]⟩
abbrev S1x1280 : Shape := ⟨2, ![1, 1280]⟩
abbrev S1024x1280 : Shape := ⟨2, ![1024, 1280]⟩
abbrev S7x1536x1280 : Shape := ⟨3, ![7, 1536, 1280]⟩
abbrev S7x1x1280 : Shape := ⟨3, ![7, 1, 1280]⟩
abbrev S1024x64 : Shape := ⟨2, ![1024, 64]⟩
abbrev S128x1280 : Shape := ⟨2, ![128, 1280]⟩
abbrev S1x128x1280 : Shape := ⟨3, ![1, 128, 1280]⟩
abbrev S128x64 : Shape := ⟨2, ![128, 64]⟩
abbrev S1280 : Shape := ⟨1, ![1280]⟩
abbrev S1x1x1280 : Shape := ⟨3, ![1, 1, 1280]⟩
abbrev S1x1536x1280 : Shape := ⟨3, ![1, 1536, 1280]⟩
abbrev S1536x1280 : Shape := ⟨2, ![1536, 1280]⟩
abbrev S16x1024x8960 : Shape := ⟨3, ![16, 1024, 8960]⟩

abbrev nBuf : Space → Nat
  | .hbm => 12
  | .vmem => 18
  | .smem => 0
  | _ => 0

abbrev bufTy : (tb : Table) → Fin (tcTables nBuf tb) → BufTy
  | .hbm, ⟨0, _⟩ => ⟨S16x1024x1536, .bf16⟩
  | .hbm, ⟨1, _⟩ => ⟨S768x8960, .i8⟩
  | .hbm, ⟨2, _⟩ => ⟨S12x8960, .bf16⟩
  | .hbm, ⟨3, _⟩ => ⟨S1536x64, .bf16⟩
  | .hbm, ⟨4, _⟩ => ⟨S64x8960, .bf16⟩
  | .hbm, ⟨5, _⟩ => ⟨S8960, .f32⟩
  | .hbm, ⟨6, _⟩ => ⟨S16384x1536, .bf16⟩
  | .hbm, ⟨7, _⟩ => ⟨S1x8960, .f32⟩
  | .hbm, ⟨8, _⟩ => ⟨S16384x8960, .bf16⟩
  | .hbm, ⟨9, _⟩ => ⟨S1x8960, .f32⟩
  | .hbm, ⟨10, _⟩ => ⟨S16x1024x8960, .bf16⟩
  | .hbm, ⟨11, _⟩ => ⟨S8960, .f32⟩
  | .local _ .vmem, ⟨0, _⟩ => ⟨S1024x1536, .bf16⟩
  | .local _ .vmem, ⟨1, _⟩ => ⟨S1024x1536, .bf16⟩
  | .local _ .vmem, ⟨2, _⟩ => ⟨S768x1280, .i8⟩
  | .local _ .vmem, ⟨3, _⟩ => ⟨S768x1280, .i8⟩
  | .local _ .vmem, ⟨4, _⟩ => ⟨S12x1280, .bf16⟩
  | .local _ .vmem, ⟨5, _⟩ => ⟨S12x1280, .bf16⟩
  | .local _ .vmem, ⟨6, _⟩ => ⟨S1536x64, .bf16⟩
  | .local _ .vmem, ⟨7, _⟩ => ⟨S64x1280, .bf16⟩
  | .local _ .vmem, ⟨8, _⟩ => ⟨S64x1280, .bf16⟩
  | .local _ .vmem, ⟨9, _⟩ => ⟨S1x1280, .f32⟩
  | .local _ .vmem, ⟨10, _⟩ => ⟨S1x1280, .f32⟩
  | .local _ .vmem, ⟨11, _⟩ => ⟨S1024x1280, .bf16⟩
  | .local _ .vmem, ⟨12, _⟩ => ⟨S1024x1280, .bf16⟩
  | .local _ .vmem, ⟨13, _⟩ => ⟨S1x1280, .f32⟩
  | .local _ .vmem, ⟨14, _⟩ => ⟨S1x1280, .f32⟩
  | .local _ .vmem, ⟨15, _⟩ => ⟨S7x1536x1280, .bf16⟩
  | .local _ .vmem, ⟨16, _⟩ => ⟨S7x1x1280, .f32⟩
  | .local _ .vmem, ⟨17, _⟩ => ⟨S1024x64, .bf16⟩
  | _, _ => ⟨S16x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v41 : Index := Scalar.indexCast arg1
  let c0_21 : Index := 0#32
  let c0_22 : Index := 0#32
  ![v41.toNat, 0, 0]
def k0_off2 (i : grid0.Coords) : Fin 3 → Nat :=
  let arg1 : BitVec 32 := BitVec.ofNat 32 (i 1).val
  let v73 : Index := Scalar.indexCast arg1
  let c128 : Index := 128#32
  let c0_37 : Index := 0#32
  ![v73.toNat, 128, 0]
def k0_off3 (i : grid0.Coords) : Fin 3 → Nat :=
  let arg1 : BitVec 32 := BitVec.ofNat 32 (i 1).val
  let v105 : Index := Scalar.indexCast arg1
  let c256 : Index := 256#32
  let c0_53 : Index := 0#32
  ![v105.toNat, 256, 0]
def k0_off4 (i : grid0.Coords) : Fin 3 → Nat :=
  let arg1 : BitVec 32 := BitVec.ofNat 32 (i 1).val
  let v137 : Index := Scalar.indexCast arg1
  let c384 : Index := 384#32
  let c0_68 : Index := 0#32
  ![v137.toNat, 384, 0]
def k0_off5 (i : grid0.Coords) : Fin 3 → Nat :=
  let arg1 : BitVec 32 := BitVec.ofNat 32 (i 1).val
  let v169 : Index := Scalar.indexCast arg1
  let c512 : Index := 512#32
  let c0_84 : Index := 0#32
  ![v169.toNat, 512, 0]
def k0_off6 (i : grid0.Coords) : Fin 3 → Nat :=
  let arg1 : BitVec 32 := BitVec.ofNat 32 (i 1).val
  let v201 : Index := Scalar.indexCast arg1
  let c640 : Index := 640#32
  let c0_99 : Index := 0#32
  ![v201.toNat, 640, 0]
def k0_off7 (i : grid0.Coords) : Fin 3 → Nat :=
  let arg1 : BitVec 32 := BitVec.ofNat 32 (i 1).val
  let v233 : Index := Scalar.indexCast arg1
  let c768 : Index := 768#32
  let c0_115 : Index := 0#32
  ![v233.toNat, 768, 0]
def k0_off8 (i : grid0.Coords) : Fin 3 → Nat :=
  let arg1 : BitVec 32 := BitVec.ofNat 32 (i 1).val
  let v265 : Index := Scalar.indexCast arg1
  let c896 : Index := 896#32
  let c0_130 : Index := 0#32
  ![v265.toNat, 896, 0]
def k0_off9 (i : grid0.Coords) : Fin 3 → Nat :=
  let arg1 : BitVec 32 := BitVec.ofNat 32 (i 1).val
  let v297 : Index := Scalar.indexCast arg1
  let c1024 : Index := 1024#32
  let c0_146 : Index := 0#32
  ![v297.toNat, 1024, 0]
def k0_off10 (i : grid0.Coords) : Fin 3 → Nat :=
  let arg1 : BitVec 32 := BitVec.ofNat 32 (i 1).val
  let v329 : Index := Scalar.indexCast arg1
  let c1152 : Index := 1152#32
  let c0_161 : Index := 0#32
  ![v329.toNat, 1152, 0]
def k0_off11 (i : grid0.Coords) : Fin 3 → Nat :=
  let arg1 : BitVec 32 := BitVec.ofNat 32 (i 1).val
  let v361 : Index := Scalar.indexCast arg1
  let c1280 : Index := 1280#32
  let c0_177 : Index := 0#32
  ![v361.toNat, 1280, 0]
def k0_off12 (i : grid0.Coords) : Fin 3 → Nat :=
  let arg1 : BitVec 32 := BitVec.ofNat 32 (i 1).val
  let v393 : Index := Scalar.indexCast arg1
  let c1408 : Index := 1408#32
  let c0_192 : Index := 0#32
  ![v393.toNat, 1408, 0]
def k0_off13 (i : grid0.Coords) : Fin 3 → Nat :=
  let arg1 : BitVec 32 := BitVec.ofNat 32 (i 1).val
  let v413 : Index := Scalar.indexCast arg1
  let c0_204 : Index := 0#32
  let c0_205 : Index := 0#32
  ![v413.toNat, 0, 0]
def k0_off14 (i : grid0.Coords) : Fin 3 → Nat :=
  let arg1 : BitVec 32 := BitVec.ofNat 32 (i 1).val
  let v8 : Index := Scalar.indexCast arg1
  let c0_4 : Index := 0#32
  let c0_5 : Index := 0#32
  ![v8.toNat, 0, 0]
def k0_off15 (i : grid0.Coords) : Fin 3 → Nat :=
  let arg1 : BitVec 32 := BitVec.ofNat 32 (i 1).val
  let v16 : Index := Scalar.indexCast arg1
  let c0_11 : Index := 0#32
  let c0_12 : Index := 0#32
  ![v16.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S12x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1536x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x1024x1536 : Shape := ⟨3, ![16, 1024, 1536]⟩
abbrev S768x8960 : Shape := ⟨2, ![768, 8960]⟩
abbrev S12x8960 : Shape := ⟨2, ![12, 8960]⟩
abbrev S1536x64 : Shape := ⟨2, ![1536, 64]⟩
abbrev S64x8960 : Shape := ⟨2, ![64, 8960]⟩
abbrev S8960 : Shape := ⟨1, ![8960]⟩
abbrev S12x64x8960 : Shape := ⟨3, ![12, 64, 8960]⟩
abbrev S_ : Shape := ⟨0, ![]⟩
abbrev S768x64 : Shape := ⟨2, ![768, 64]⟩
abbrev S16x1024x64 : Shape := ⟨3, ![16, 1024, 64]⟩
abbrev S16x1024x768 : Shape := ⟨3, ![16, 1024, 768]⟩
abbrev S16x1024x8960 : Shape := ⟨3, ![16, 1024, 8960]⟩
abbrev S1x1x8960 : Shape := ⟨3, ![1, 1, 8960]⟩

abbrev nBuf : Space → Nat
  | .hbm => 75
  | .vmem => 0
  | .smem => 0
  | _ => 0

abbrev bufTy : (tb : Table) → Fin (tcTables nBuf tb) → BufTy
  | .hbm, ⟨0, _⟩ => ⟨S16x1024x1536, .bf16⟩
  | .hbm, ⟨1, _⟩ => ⟨S768x8960, .i8⟩
  | .hbm, ⟨2, _⟩ => ⟨S12x8960, .bf16⟩
  | .hbm, ⟨3, _⟩ => ⟨S1536x64, .bf16⟩
  | .hbm, ⟨4, _⟩ => ⟨S64x8960, .bf16⟩
  | .hbm, ⟨5, _⟩ => ⟨S8960, .f32⟩
  | .hbm, ⟨6, _⟩ => ⟨S768x8960, .i32⟩
  | .hbm, ⟨7, _⟩ => ⟨S12x64x8960, .bf16⟩
  | .hbm, ⟨8, _⟩ => ⟨S768x8960, .bf16⟩
  | .hbm, ⟨9, _⟩ => ⟨S_, .i32⟩
  | .hbm, ⟨10, _⟩ => ⟨S768x8960, .i32⟩
  | .hbm, ⟨11, _⟩ => ⟨S768x8960, .i32⟩
  | .hbm, ⟨12, _⟩ => ⟨S_, .i32⟩
  | .hbm, ⟨13, _⟩ => ⟨S768x8960, .i32⟩
  | .hbm, ⟨14, _⟩ => ⟨S768x8960, .i1⟩
  | .hbm, ⟨15, _⟩ => ⟨S_, .i32⟩
  | .hbm, ⟨16, _⟩ => ⟨S768x8960, .i32⟩
  | .hbm, ⟨17, _⟩ => ⟨S768x8960, .i32⟩
  | .hbm, ⟨18, _⟩ => ⟨S768x8960, .i32⟩
  | .hbm, ⟨19, _⟩ => ⟨S768x8960, .bf16⟩
  | .hbm, ⟨20, _⟩ => ⟨S768x8960, .bf16⟩
  | .hbm, ⟨21, _⟩ => ⟨S_, .i32⟩
  | .hbm, ⟨22, _⟩ => ⟨S768x8960, .i32⟩
  | .hbm, ⟨23, _⟩ => ⟨S768x8960, .i32⟩
  | .hbm, ⟨24, _⟩ => ⟨S_, .i32⟩
  | .hbm, ⟨25, _⟩ => ⟨S768x8960, .i32⟩
  | .hbm, ⟨26, _⟩ => ⟨S768x8960, .i32⟩
  | .hbm, ⟨27, _⟩ => ⟨S_, .i32⟩
  | .hbm, ⟨28, _⟩ => ⟨S768x8960, .i32⟩
  | .hbm, ⟨29, _⟩ => ⟨S768x8960, .i1⟩
  | .hbm, ⟨30, _⟩ => ⟨S_, .i32⟩
  | .hbm, ⟨31, _⟩ => ⟨S768x8960, .i32⟩
  | .hbm, ⟨32, _⟩ => ⟨S768x8960, .i32⟩
  | .hbm, ⟨33, _⟩ => ⟨S768x8960, .i32⟩
  | .hbm, ⟨34, _⟩ => ⟨S768x8960, .bf16⟩
  | .hbm, ⟨35, _⟩ => ⟨S768x8960, .bf16⟩
  | .hbm, ⟨36, _⟩ => ⟨S768x64, .bf16⟩
  | .hbm, ⟨37, _⟩ => ⟨S768x64, .bf16⟩
  | .hbm, ⟨38, _⟩ => ⟨S768x8960, .f32⟩
  | .hbm, ⟨39, _⟩ => ⟨S768x8960, .f32⟩
  | .hbm, ⟨40, _⟩ => ⟨S_, .f32⟩
  | .hbm, ⟨41, _⟩ => ⟨S768x8960, .f32⟩
  | .hbm, ⟨42, _⟩ => ⟨S768x8960, .f32⟩
  | .hbm, ⟨43, _⟩ => ⟨S768x8960, .f32⟩
  | .hbm, ⟨44, _⟩ => ⟨S768x8960, .f32⟩
  | .hbm, ⟨45, _⟩ => ⟨S768x8960, .f32⟩
  | .hbm, ⟨46, _⟩ => ⟨S_, .f32⟩
  | .hbm, ⟨47, _⟩ => ⟨S768x8960, .f32⟩
  | .hbm, ⟨48, _⟩ => ⟨S768x8960, .f32⟩
  | .hbm, ⟨49, _⟩ => ⟨S768x8960, .f32⟩
  | .hbm, ⟨50, _⟩ => ⟨S768x8960, .f32⟩
  | .hbm, ⟨51, _⟩ => ⟨S_, .f32⟩
  | .hbm, ⟨52, _⟩ => ⟨S8960, .f32⟩
  | .hbm, ⟨53, _⟩ => ⟨S768x8960, .f32⟩
  | .hbm, ⟨54, _⟩ => ⟨S_, .f32⟩
  | .hbm, ⟨55, _⟩ => ⟨S8960, .f32⟩
  | .hbm, ⟨56, _⟩ => ⟨S8960, .f32⟩
  | .hbm, ⟨57, _⟩ => ⟨S8960, .f32⟩
  | .hbm, ⟨58, _⟩ => ⟨S16x1024x64, .f32⟩
  | .hbm, ⟨59, _⟩ => ⟨S16x1024x64, .bf16⟩
  | .hbm, ⟨60, _⟩ => ⟨S16x1024x768, .bf16⟩
  | .hbm, ⟨61, _⟩ => ⟨S16x1024x8960, .f32⟩
  | .hbm, ⟨62, _⟩ => ⟨S16x1024x768, .bf16⟩
  | .hbm, ⟨63, _⟩ => ⟨S16x1024x8960, .f32⟩
  | .hbm, ⟨64, _⟩ => ⟨S16x1024x8960, .f32⟩
  | .hbm, ⟨65, _⟩ => ⟨S16x1024x8960, .f32⟩
  | .hbm, ⟨66, _⟩ => ⟨S_, .f32⟩
  | .hbm, ⟨67, _⟩ => ⟨S16x1024x8960, .f32⟩
  | .hbm, ⟨68, _⟩ => ⟨S16x1024x8960, .f32⟩
  | .hbm, ⟨69, _⟩ => ⟨S16x1024x8960, .f32⟩
  | .hbm, ⟨70, _⟩ => ⟨S8960, .f32⟩
  | .hbm, ⟨71, _⟩ => ⟨S1x1x8960, .f32⟩
  | .hbm, ⟨72, _⟩ => ⟨S16x1024x8960, .f32⟩
  | .hbm, ⟨73, _⟩ => ⟨S16x1024x8960, .f32⟩
  | .hbm, ⟨74, _⟩ => ⟨S16x1024x8960, .bf16⟩
  | _, _ => ⟨S16x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Proof.Kit.lean ====
/- The kernel body's branch conditions in closed form, the staging memrefs at a grid point, and the scratch operands. -/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 7 — by arithmetic of the point. -/
theorem hcond0_0 : ∀ t : Fin cfg0.N, cond0_0 (grid0.coords t) ↔ t.val < 7 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val < 7)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_1 : ∀ t : Fin cfg0.N, cond0_1 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1536 .bf16 := win0_0.stage (cfg0.slots t 0)
/-- The staging buffer of the activations is a whole buffer. -/
abbrev hs0_0 (t : Fin cfg0.N) : (ms0_0 t).IsWhole := hstage0_0 ((cfg0.slots t 0).cast nbuf0_0)
/-- The staging buffer of the packed codes at a grid point. -/
abbrev ms0_1 (t : Fin cfg0.N) : Memref sig .tc .vmem S768x1280 .i8 := win0_1.stage (cfg0.slots t 1)
/-- The staging buffer of the packed codes is a whole buffer. -/
abbrev hs0_1 (t : Fin cfg0.N) : (ms0_1 t).IsWhole := hstage0_1 ((cfg0.slots t 1).cast nbuf0_1)
/-- The staging buffer of the scales at a grid point. -/
abbrev ms0_2 (t : Fin cfg0.N) : Memref sig .tc .vmem S12x1280 .bf16 := win0_2.stage (cfg0.slots t 2)
/-- The staging buffer of the scales is a whole buffer. -/
abbrev hs0_2 (t : Fin cfg0.N) : (ms0_2 t).IsWhole := hstage0_2 ((cfg0.slots t 2).cast nbuf0_2)
/-- The staging buffer of the first factor at a grid point. -/
abbrev ms0_3 (t : Fin cfg0.N) : Memref sig .tc .vmem S1536x64 .bf16 := win0_3.stage (cfg0.slots t 3)
/-- The staging buffer of the first factor is a whole buffer. -/
abbrev hs0_3 (t : Fin cfg0.N) : (ms0_3 t).IsWhole := hstage0_3 ((cfg0.slots t 3).cast nbuf0_3)
/-- The staging buffer of the second factor at a grid point. -/
abbrev ms0_4 (t : Fin cfg0.N) : Memref sig .tc .vmem S64x1280 .bf16 := win0_4.stage (cfg0.slots t 4)
/-- The staging buffer of the second factor is a whole buffer. -/
abbrev hs0_4 (t : Fin cfg0.N) : (ms0_4 t).IsWhole := hstage0_4 ((cfg0.slots t 4).cast nbuf0_4)
/-- The staging buffer of the magnitudes at a grid point. -/
abbrev ms0_5 (t : Fin cfg0.N) : Memref sig .tc .vmem S1x1280 .f32 := win0_5.stage (cfg0.slots t 5)
/-- The staging buffer of the magnitudes is a whole buffer. -/
abbrev hs0_5 (t : Fin cfg0.N) : (ms0_5 t).IsWhole := hstage0_5 ((cfg0.slots t 5).cast nbuf0_5)
/-- The staging buffer of the output at a grid point. -/
abbrev ms0_6 (t : Fin cfg0.N) : Memref sig .tc .vmem S1024x1280 .bf16 := win0_6.stage (cfg0.slots t 6)
/-- The staging buffer of the output is a whole buffer. -/
abbrev hs0_6 (t : Fin cfg0.N) : (ms0_6 t).IsWhole := hstage0_6 ((cfg0.slots t 6).cast nbuf0_6)
/-- The staging buffer of the norms at a grid point. -/
abbrev ms0_7 (t : Fin cfg0.N) : Memref sig .tc .vmem S1x1280 .f32 := win0_7.stage (cfg0.slots t 7)
/-- The staging buffer of the norms is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S7x1536x1280 .bf16 := Memref.whole cc0_scratch0
/-- The scratch memref of the gains. -/
abbrev scM0_1 : Memref sig .tc .vmem S7x1x1280 .f32 := Memref.whole cc0_scratch1
/-- The scratch memref of the projected activations. -/
abbrev scM0_2 : Memref sig .tc .vmem S1024x64 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Val

end
-- ==== Proof.Blocks.lean ====
module

public import proofs.«01_k».proof.Proof.Kit
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one grid point computes, as functions of its blocks

The program names the pure parts of the kernel's body, and the same computation is cut at different places from one
group to the next. Here each payload is put in one form: group `g` decodes to `grpD`, and the running total of
squares after `g` groups is `tot`. -/

/-- Group `g`'s 64 rows of packed codes. -/
def codesBlk (x1 : Vec F S768x1280 .i8) (g : Nat) : Vec F S64x1280 .i8 :=
  fun y => x1 (ix2 (Fin.ofNat 768 (64 * g + (y 0).val)) (y 1))

/-- Group `g`'s row of scales. -/
def scaleRow (x2 : Vec F S12x1280 .bf16) (g : Nat) : Vec F S1x1280 .bf16 :=
  fun y => x2 (ix2 (Fin.ofNat 12 g) (y 1))

/-- Group `g`'s 128 rows of the first low-rank factor. -/
def aBlk (x3 : Vec F S1536x64 .bf16) (g : Nat) : Vec F S128x64 .bf16 :=
  fun y => x3 (ix2 (Fin.ofNat 1536 (128 * g + (y 0).val)) (y 1))

/-- Group `g`'s 128 decoded weight rows. -/
def grpD (x1 : Vec F S768x1280 .i8) (x2 : Vec F S12x1280 .bf16) (g : Nat) : FVec F S128x1280 .bf16 :=
  k0_pay46 (codesBlk x1 g) (scaleRow x2 g)

/-- The total of squares over the first `g` groups. -/
def tot (x1 : Vec F S768x1280 .i8) (x2 : Vec F S12x1280 .bf16) (x3 : Vec F S1536x64 .bf16) (x4 : Vec F S64x1280 .bf16) :
    Nat → FVec F S1x1280 .f32
  | 0 => broadcast S1x1280 (Scalar.ofBits .f32 0x00000000#32)
  | g + 1 => k0_pay48 (tot x1 x2 x3 x4 g) (grpD x1 x2 g) (aBlk x3 g) x4

/-- The row of column norms. -/
def normRow (x1 : Vec F S768x1280 .i8) (x2 : Vec F S12x1280 .bf16) (x3 : Vec F S1536x64 .bf16) (x4 : Vec F S64x1280 .bf16) :
    FVec F S1x1280 .f32 := sqrt (tot x1 x2 x3 x4 12)

/-- The row of gains: the magnitudes divided by the norms. -/
def gainRow (x1 : Vec F S768x1280 .i8) (x2 : Vec F S12x1280 .bf16) (x3 : Vec F S1536x64 .bf16) (x4 : Vec F S64x1280 .bf16)
    (x5 : Vec F S1x1280 .f32) : FVec F S1x1280 .f32 := divf x5 (normRow x1 x2 x3 x4)

/-- The decoded weight block, all twelve groups. -/
def decD (x1 : Vec F S768x1280 .i8) (x2 : Vec F S12x1280 .bf16) : Vec F S1536x1280 .bf16 :=
  fun y => grpD x1 x2 ((y 0).val / 128) (ix2 (Fin.ofNat 128 (y 0).val) (y 1))

/-- The scratch that keeps the decoded weights with slab `j` replaced by `d`. -/
def setD (s : Vec F S7x1536x1280 .bf16) (j : Nat) (d : Vec F S1536x1280 .bf16) : Vec F S7x1536x1280 .bf16 :=
  fun y => if (y 0).val = j then d (ix2 (y 1) (y 2)) else s y

/-- The scratch that keeps the gains with row `j` replaced by `r`. -/
def setG (s : Vec F S7x1x1280 .f32) (j : Nat) (r : Vec F S1x1280 .f32) : Vec F S7x1x1280 .f32 :=
  fun y => if (y 0).val = j then r (ix2 (y 1) (y 2)) else s y

/-- Slab `j` of the kept decoded weights. -/
def getD (s : Vec F S7x1536x1280 .bf16) (j : Fin 7) : Vec F S1536x1280 .bf16 := fun y => s (ix3 j (y 0) (y 1))

/-- Row `j` of the kept gains. -/
def getG (s : Vec F S7x1x1280 .f32) (j : Fin 7) : Vec F S1x1280 .f32 := fun y => s (ix3 j (y 0) (y 1))

/-- A point's output block from its rows of `x`, the decoded weights, the low-rank product of its rows, the second
    low-rank factor and the gains. -/
def outBlk (x0 : Vec F S1024x1536 .bf16) (d : Vec F S1536x1280 .bf16) (xa : Vec F S1024x64 .bf16) (x4 : Vec F S64x1280 .bf16)
    (g : Vec F S1x1280 .f32) : FVec F S1024x1280 .bf16 :=
  k0_pay4 x0 (fun y => d (ix2 (y 1) (y 2))) xa x4 (fun y => g (ix2 (y 1) (y 2)))

/-! ## Loads of a literal box -/

/-- A load of a literal box of a whole memref of known contents reads those contents at the box's places. -/
theorem ld_rows {sp : Space} {R R' C : Nat} {e : EltTy} (m : Memref sig .tc sp ⟨2, ![R, C]⟩ e) (hm : m.IsWhole)
    (x : Vec F ⟨2, ![R, C]⟩ e) (o : Nat) (h : ∀ a, (![o, 0] : Fin 2 → Nat) a + (⟨2, ![R', C]⟩ : Shape).size a ≤ (⟨2, ![R, C]⟩ : Shape).size a)
    (y : (⟨2, ![R', C]⟩ : Shape).Idx) (k : (⟨2, ![R, C]⟩ : Shape).Idx) (h0 : (k 0).val = o + (y 0).val) (h1 : (k 1).val = (y 1).val) :
    View.readAt (Elt F) m.view (Rect.unit (s := ⟨2, ![R, C]⟩) ![o, 0] (⟨2, ![R', C]⟩ : Shape).size h).toLoadRect (hm.unread x) y = x k := by
  rw [View.readAt_apply, hm.read_unread]
  refine congrArg x (funext fun a => Fin.ext ?_)
  match a with
  | ⟨0, _⟩ => exact (show o + 1 * (y 0).val = (k 0).val by omega)
  | ⟨1, _⟩ => exact (show 0 + 1 * (y 1).val = (k 1).val by omega)

/-- The load of one group of codes returns that group of the block. -/
theorem ld_codes {sp : Space} (m : Memref sig .tc sp S768x1280 .i8) (hm : m.IsWhole) (x1 : Vec F S768x1280 .i8) (o : Nat)
    (h : ∀ a, (![o, 0] : Fin 2 → Nat) a + S64x1280.size a ≤ S768x1280.size a) (ho : o % 64 = 0) :
    View.readAt (Elt F) m.view (Rect.unit (s := S768x1280) ![o, 0] S64x1280.size h).toLoadRect (hm.unread x1) = codesBlk x1 (o / 64) := by
  funext y
  refine ld_rows (R' := 64) m hm x1 o h y _ ?_ rfl
  have h0 : o + 64 ≤ 768 := h 0
  have hy : (y 0).val < 64 := (y 0).isLt
  show (64 * (o / 64) + (y 0).val) % 768 = o + (y 0).val
  omega

/-- The load of one scale row returns that row of the block. -/
theorem ld_scale {sp : Space} (m : Memref sig .tc sp S12x1280 .bf16) (hm : m.IsWhole) (x2 : Vec F S12x1280 .bf16) (o : Nat)
    (h : ∀ a, (![o, 0] : Fin 2 → Nat) a + S1x1280.size a ≤ S12x1280.size a) :
    View.readAt (Elt F) m.view (Rect.unit (s := S12x1280) ![o, 0] S1x1280.size h).toLoadRect (hm.unread x2) = scaleRow x2 o := by
  funext y
  refine ld_rows (R' := 1) m hm x2 o h y _ ?_ rfl
  have h0 : o + 1 ≤ 12 := h 0
  have hy : (y 0).val < 1 := (y 0).isLt
  show o % 12 = o + (y 0).val
  omega

/-- The load of one group of rows of the first factor returns those rows of the block. -/
theorem ld_a {sp : Space} (m : Memref sig .tc sp S1536x64 .bf16) (hm : m.IsWhole) (x3 : Vec F S1536x64 .bf16) (o : Nat)
    (h : ∀ a, (![o, 0] : Fin 2 → Nat) a + S128x64.size a ≤ S1536x64.size a) (ho : o % 128 = 0) :
    View.readAt (Elt F) m.view (Rect.unit (s := S1536x64) ![o, 0] S128x64.size h).toLoadRect (hm.unread x3) = aBlk x3 (o / 128) := by
  funext y
  refine ld_rows (R' := 128) m hm x3 o h y _ ?_ rfl
  have h0 : o + 128 ≤ 1536 := h 0
  have hy : (y 0).val < 128 := (y 0).isLt
  show (128 * (o / 128) + (y 0).val) % 1536 = o + (y 0).val
  omega

/-- A load of the whole of a whole memref reads its contents. -/
theorem ld_whole {sp : Space} {R C : Nat} {e : EltTy} (m : Memref sig .tc sp ⟨2, ![R, C]⟩ e) (hm : m.IsWhole)
    (x : Vec F ⟨2, ![R, C]⟩ e) (h : ∀ a, (![0, 0] : Fin 2 → Nat) a + (⟨2, ![R, C]⟩ : Shape).size a ≤ (⟨2, ![R, C]⟩ : Shape).size a) :
    View.readAt (Elt F) m.view (Rect.unit (s := ⟨2, ![R, C]⟩) ![0, 0] (⟨2, ![R, C]⟩ : Shape).size h).toLoadRect (hm.unread x) = x := by
  funext y
  exact ld_rows (R' := R) m hm x 0 h y y (by omega) rfl

/-! ## The payloads in one form -/

section Payloads
variable (c : Vec F S64x1280 .i8) (s : Vec F S1x1280 .bf16) (t : FVec F S1x1280 .f32) (a : Vec F S128x64 .bf16) (b : Vec F S64x1280 .bf16)

/-- The decoding, slab or running sum stored here is the one function of the codes, the scales and the factors that every group uses. -/
theorem pay5_eq : k0_pay5 c s = k0_pay46 c s := rfl
/-- The decoding, slab or running sum stored here is the one function of the codes, the scales and the factors that every group uses. -/
theorem pay6_eq : k0_pay6 c s = k0_pay47 (k0_pay46 c s) := rfl
/-- The decoding, slab or running sum stored here is the one function of the codes, the scales and the factors that every group uses. -/
theorem pay7_eq : k0_pay7 c s a b = k0_pay48 (broadcast S1x1280 (Scalar.ofBits .f32 0x00000000#32)) (k0_pay46 c s) a b := rfl
/-- The decoding, slab or running sum stored here is the one function of the codes, the scales and the factors that every group uses. -/
theorem pay9_eq : k0_pay9 s (k0_pay8 c) = k0_pay46 c s := rfl
/-- The decoding, slab or running sum stored here is the one function of the codes, the scales and the factors that every group uses. -/
theorem pay10_eq : k0_pay10 s (k0_pay8 c) = k0_pay47 (k0_pay46 c s) := rfl
/-- The decoding, slab or running sum stored here is the one function of the codes, the scales and the factors that every group uses. -/
theorem pay11_eq : k0_pay11 t s (k0_pay8 c) a b = k0_pay48 t (k0_pay46 c s) a b := rfl
/-- The decoding, slab or running sum stored here is the one function of the codes, the scales and the factors that every group uses. -/
theorem pay15_eq : k0_pay15 s (k0_pay13 c) (k0_pay14 c) = k0_pay46 c s := rfl
/-- The decoding, slab or running sum stored here is the one function of the codes, the scales and the factors that every group uses. -/
theorem pay16_eq : k0_pay16 s (k0_pay13 c) (k0_pay14 c) = k0_pay47 (k0_pay46 c s) := rfl
/-- The decoding, slab or running sum stored here is the one function of the codes, the scales and the factors that every group uses. -/
theorem pay17_eq : k0_pay17 t s (k0_pay13 c) (k0_pay14 c) a b = k0_pay48 t (k0_pay46 c s) a b := rfl
/-- The decoding, slab or running sum stored here is the one function of the codes, the scales and the factors that every group uses. -/
theorem pay20_eq : k0_pay20 (k0_pay18 c) (k0_pay19 s) = k0_pay46 c s := rfl
/-- The decoding, slab or running sum stored here is the one function of the codes, the scales and the factors that every group uses. -/
theorem pay21_eq : k0_pay21 (k0_pay18 c) (k0_pay19 s) = k0_pay47 (k0_pay46 c s) := rfl
/-- The decoding, slab or running sum stored here is the one function of the codes, the scales and the factors that every group uses. -/
theorem pay22_eq : k0_pay22 t (k0_pay18 c) (k0_pay19 s) a b = k0_pay48 t (k0_pay46 c s) a b := rfl
/-- The decoding, slab or running sum stored here is the one function of the codes, the scales and the factors that every group uses. -/
theorem pay23_eq : k0_pay23 c s = k0_pay46 c s := rfl
/-- The decoding, slab or running sum stored here is the one function of the codes, the scales and the factors that every group uses. -/
theorem pay24_eq : k0_pay24 c s = k0_pay47 (k0_pay46 c s) := rfl
/-- The decoding, slab or running sum stored here is the one function of the codes, the scales and the factors that every group uses. -/
theorem pay25_eq (d : FVec F S128x1280 .bf16) : k0_pay25 t d a b = k0_pay48 t d a b := rfl
/-- The decoding, slab or running sum stored here is the one function of the codes, the scales and the factors that every group uses. -/
theorem pay26_eq : k0_pay26 c s = k0_pay46 c s := rfl
/-- The decoding, slab or running sum stored here is the one function of the codes, the scales and the factors that every group uses. -/
theorem pay27_eq : k0_pay27 c s = k0_pay47 (k0_pay46 c s) := rfl
/-- The decoding, slab or running sum stored here is the one function of the codes, the scales and the factors that every group uses. -/
theorem pay30_eq : k0_pay30 c s = k0_pay46 c s := rfl
/-- The decoding, slab or running sum stored here is the one function of the codes, the scales and the factors that every group uses. -/
theorem pay31_eq : k0_pay31 c s = k0_pay47 (k0_pay46 c s) := rfl
/-- The decoding, slab or running sum stored here is the one function of the codes, the scales and the factors that every group uses. -/
theorem pay32_eq (c' : Vec F S64x1280 .i8) (s' : Vec F S1x1280 .bf16) (a' : Vec F S128x64 .bf16) (b' : Vec F S64x1280 .bf16) :
    k0_pay32 t (k0_pay28 a b) (k0_pay29 c s) (Scalar.ofBits .f32 0x40000000#32) c' s' a' b'
      = k0_pay48 (k0_pay48 t (k0_pay46 c s) a b) (k0_pay46 c' s') a' b' := rfl
/-- The decoding, slab or running sum stored here is the one function of the codes, the scales and the factors that every group uses. -/
theorem pay33_eq : k0_pay33 c s = k0_pay46 c s := rfl
/-- The decoding, slab or running sum stored here is the one function of the codes, the scales and the factors that every group uses. -/
theorem pay34_eq : k0_pay34 c s = k0_pay47 (k0_pay46 c s) := rfl
/-- The decoding, slab or running sum stored here is the one function of the codes, the scales and the factors that every group uses. -/
theorem pay35_eq : k0_pay35 t c s a b = k0_pay48 t (k0_pay46 c s) a b := rfl
/-- The decoding, slab or running sum stored here is the one function of the codes, the scales and the factors that every group uses. -/
theorem pay38_eq : k0_pay38 s (k0_pay36 c) (k0_pay37 c) = k0_pay46 c s := rfl
/-- The decoding, slab or running sum stored here is the one function of the codes, the scales and the factors that every group uses. -/
theorem pay39_eq : k0_pay39 s (k0_pay36 c) (k0_pay37 c) = k0_pay47 (k0_pay46 c s) := rfl
/-- The decoding, slab or running sum stored here is the one function of the codes, the scales and the factors that every group uses. -/
theorem pay40_eq : k0_pay40 t s (k0_pay36 c) (k0_pay37 c) a b = k0_pay48 t (k0_pay46 c s) a b := rfl
/-- The decoding, slab or running sum stored here is the one function of the codes, the scales and the factors that every group uses. -/
theorem pay43_eq : k0_pay43 s (k0_pay41 c) k0_pay42 = k0_pay46 c s := rfl
/-- The decoding, slab or running sum stored here is the one function of the codes, the scales and the factors that every group uses. -/
theorem pay44_eq : k0_pay44 s (k0_pay41 c) k0_pay42 = k0_pay47 (k0_pay46 c s) := rfl
/-- The decoding, slab or running sum stored here is the one function of the codes, the scales and the factors that every group uses. -/
theorem pay45_eq : k0_pay45 t s (k0_pay41 c) k0_pay42 a b = k0_pay48 t (k0_pay46 c s) a b := rfl
/-- The decoding, slab or running sum stored here is the one function of the codes, the scales and the factors that every group uses. -/
theorem pay49_eq : k0_pay49 c s = k0_pay46 c s := rfl
/-- The decoding, slab or running sum stored here is the one function of the codes, the scales and the factors that every group uses. -/
theorem pay50_eq : k0_pay50 c s = k0_pay47 (k0_pay46 c s) := rfl
/-- The last stored row of norms is the square root of the last running sum. -/
theorem pay1_eq (d : FVec F S128x1280 .bf16) : k0_pay1 t d a b = sqrt (k0_pay48 t d a b) := rfl
/-- The stored gains are the magnitudes over those norms. -/
theorem pay2_eq (d : FVec F S128x1280 .bf16) (m : Vec F S1x1280 .f32) :
    k0_pay2 t d a b m = shapeCast S1x1x1280 (divf (shapeCast S1x1280 m shapeCasts_S1x1280_S1x1280) (sqrt (k0_pay48 t d a b)))
      shapeCasts_S1x1280_S1x1x1280 := rfl

end Payloads

/-- A group's decoding over named operands. -/
theorem grp_eq {c : Vec F S64x1280 .i8} {s : Vec F S1x1280 .bf16} {x1 : Vec F S768x1280 .i8} {x2 : Vec F S12x1280 .bf16} {g : Nat}
    (hc : c = codesBlk x1 g) (hs : s = scaleRow x2 g) : k0_pay46 c s = grpD x1 x2 g := by
  subst hc hs; rfl

/-- One more group's squares on the running total, over named operands. -/
theorem step_eq {t : FVec F S1x1280 .f32} {d : FVec F S128x1280 .bf16} {a : Vec F S128x64 .bf16} {b : Vec F S64x1280 .bf16}
    {x1 : Vec F S768x1280 .i8} {x2 : Vec F S12x1280 .bf16} {x3 : Vec F S1536x64 .bf16} {x4 : Vec F S64x1280 .bf16} {g : Nat}
    (ht : t = tot x1 x2 x3 x4 g) (hd : d = grpD x1 x2 g) (ha : a = aBlk x3 g) (hb : b = x4) :
    k0_pay48 t d a b = tot x1 x2 x3 x4 (g + 1) := by
  subst ht hd ha hb; rfl

/-- The gains' payload over named operands. -/
theorem gain_eq {m : Vec F S1x1280 .f32} {t : FVec F S1x1280 .f32}
    {x1 : Vec F S768x1280 .i8} {x2 : Vec F S12x1280 .bf16} {x3 : Vec F S1536x64 .bf16} {x4 : Vec F S64x1280 .bf16} {x5 : Vec F S1x1280 .f32}
    (hm : m = x5) (ht : t = tot x1 x2 x3 x4 12) :
    shapeCast S1x1x1280 (divf (shapeCast S1x1280 m shapeCasts_S1x1280_S1x1280) (sqrt t)) shapeCasts_S1x1280_S1x1x1280
      = shapeCast S1x1x1280 (gainRow x1 x2 x3 x4 x5) shapeCasts_S1x1280_S1x1x1280 := by
  subst hm ht; rw [shapeCast_self]; rfl

/-! ## The twelve stores of a decoded slab -/

/-- The store of group `g`'s decoded rows into slab `j`. -/
def piece (j : Fin 7) (x1 : Vec F S768x1280 .i8) (x2 : Vec F S12x1280 .bf16) (g : Nat) (hg : g < 12) :
    View.Piece (Elt F) S7x1536x1280 .bf16 :=
  ⟨Rect.unit ![j.val, 128 * g, 0] S1x128x1280.size (fun a => match a with
    | ⟨0, _⟩ => (show j.val + 1 ≤ 7 by omega)
    | ⟨1, _⟩ => (show 128 * g + 128 ≤ 1536 by omega)
    | ⟨2, _⟩ => (show 0 + 1280 ≤ 1280 by omega)), k0_pay47 (grpD x1 x2 g)⟩

/-- The stores of the first `n` groups, the latest first. -/
def slabL (j : Fin 7) (x1 : Vec F S768x1280 .i8) (x2 : Vec F S12x1280 .bf16) : (n : Nat) → n ≤ 12 → List (View.Piece (Elt F) S7x1536x1280 .bf16)
  | 0, _ => []
  | n + 1, h => piece j x1 x2 n h :: slabL j x1 x2 n (Nat.le_of_succ_le h)

/-- A piece of the list of stored slabs is the decoded slab of one group. -/
theorem mem_slabL (j : Fin 7) (x1 : Vec F S768x1280 .i8) (x2 : Vec F S12x1280 .bf16) (p : View.Piece (Elt F) S7x1536x1280 .bf16) :
    ∀ n (h : n ≤ 12), p ∈ slabL j x1 x2 n h ↔ ∃ g, ∃ hg : g < n, p = piece j x1 x2 g (by omega)
  | 0, _ => by simp [slabL]
  | n + 1, h => by
    rw [slabL, List.mem_cons, mem_slabL j x1 x2 p n]
    constructor
    · rintro (rfl | ⟨g, hg, rfl⟩)
      · exact ⟨n, by omega, rfl⟩
      · exact ⟨g, by omega, rfl⟩
    · rintro ⟨g, hg, rfl⟩
      rcases Nat.lt_succ_iff_lt_or_eq.mp hg with h' | rfl
      · exact .inr ⟨g, h', rfl⟩
      · exact .inl rfl

/-- A place lies in group `g`'s store when it is in slab `j` and its row is one of the group's. -/
theorem mem_piece (j : Fin 7) (x1 : Vec F S768x1280 .i8) (x2 : Vec F S12x1280 .bf16) (g : Nat) (hg : g < 12) (y : S7x1536x1280.Idx) :
    y ∈ (piece j x1 x2 g hg).1.set ↔ (y 0).val = j.val ∧ (y 1).val / 128 = g := by
  refine ((piece j x1 x2 g hg).1.mem_set).trans ?_
  constructor
  · intro h
    obtain ⟨a0, ha0, e0⟩ := h 0
    obtain ⟨a1, ha1, e1⟩ := h 1
    replace ha0 : a0 < 1 := ha0
    replace ha1 : a1 < 128 := ha1
    replace e0 : (y 0).val = j.val + 1 * a0 := e0
    replace e1 : (y 1).val = 128 * g + 1 * a1 := e1
    omega
  · rintro ⟨h0, h1⟩ a
    match a with
    | ⟨0, _⟩ => exact ⟨0, (by decide : 0 < 1), (show (y 0).val = j.val + 1 * 0 by omega)⟩
    | ⟨1, _⟩ => exact ⟨(y 1).val % 128, (show (y 1).val % 128 < 128 by omega), (show (y 1).val = 128 * g + 1 * ((y 1).val % 128) by omega)⟩
    | ⟨2, _⟩ => exact ⟨(y 2).val, (y 2).isLt, (show (y 2).val = 0 + 1 * (y 2).val by omega)⟩

/-- Group `g`'s store puts the decoded weight at each place of it. -/
theorem piece_val (j : Fin 7) (x1 : Vec F S768x1280 .i8) (x2 : Vec F S12x1280 .bf16) (g : Nat) (hg : g < 12)
    (x : (piece j x1 x2 g hg).1.shape.Idx) :
    (piece j x1 x2 g hg).2 x = (fun y : S7x1536x1280.Idx => decD x1 x2 (ix2 (y 1) (y 2))) ((piece j x1 x2 g hg).1.emb x) := by
  have hx : (x 1).val < 128 := (x 1).isLt
  have e1 : (((piece j x1 x2 g hg).1.emb x) 1).val = 128 * g + 1 * (x 1).val := rfl
  have e2 : (((piece j x1 x2 g hg).1.emb x) 2).val = 0 + 1 * (x 2).val := rfl
  show shapeCast S1x128x1280 (grpD x1 x2 g) shapeCasts_S128x1280_S1x128x1280 x = grpD x1 x2 ((((piece j x1 x2 g hg).1.emb x) 1).val / 128) _
  refine (shapeCast_addUnit_apply (![128, 1280] : Fin 2 → Nat) (grpD x1 x2 g) shapeCasts_S128x1280_S1x128x1280 x).trans ?_
  have eg : (((piece j x1 x2 g hg).1.emb x) 1).val / 128 = g := by omega
  rw [eg]
  refine congrArg (grpD x1 x2 g) (funext fun a => Fin.ext ?_)
  match a with
  | ⟨0, _⟩ => exact (show (x 1).val = (((piece j x1 x2 g hg).1.emb x) 1).val % 128 by omega)
  | ⟨1, _⟩ => exact (show (x 2).val = (((piece j x1 x2 g hg).1.emb x) 2).val by omega)

/-- A piece spelt with another offset vector of the same values. -/
theorem piece_eq (j : Fin 7) (x1 : Vec F S768x1280 .i8) (x2 : Vec F S12x1280 .bf16) (g : Nat) (hg : g < 12) (off : Fin 3 → Nat)
    (h : ∀ a, off a + S1x128x1280.size a ≤ S7x1536x1280.size a) (ho : off = ![j.val, 128 * g, 0]) (w : FVec F S1x128x1280 .bf16)
    (hw : w = k0_pay47 (grpD x1 x2 g)) :
    (⟨Rect.unit off S1x128x1280.size h, w⟩ : View.Piece (Elt F) S7x1536x1280 .bf16) = piece j x1 x2 g hg := by
  subst ho hw; rfl

/-- After the twelve stores the slab holds the decoded weights and the other slabs what they held. -/
theorem read_slab (m : Memref sig .tc .vmem S7x1536x1280 .bf16) (f : m.view.ty.Contents (Elt F)) (j : Fin 7)
    (x1 : Vec F S768x1280 .i8) (x2 : Vec F S12x1280 .bf16) :
    m.view.read (Elt F) (m.view.writes (Elt F) f (slabL j x1 x2 12 (by omega))) = setD (m.view.read (Elt F) f) j.val (decD x1 x2) := by
  funext y
  unfold setD
  by_cases h0 : (y 0).val = j.val
  · rw [if_pos h0]
    have hy : (y 1).val < 1536 := (y 1).isLt
    refine View.read_writes_apply_of_pieces m.view f (fun y : S7x1536x1280.Idx => decD x1 x2 (ix2 (y 1) (y 2))) _ (fun p hp x => ?_) y ?_
    · obtain ⟨g, hg, rfl⟩ := (mem_slabL j x1 x2 p 12 (by omega)).mp hp
      exact piece_val j x1 x2 g hg x
    · exact ⟨piece j x1 x2 ((y 1).val / 128) (by omega), (mem_slabL j x1 x2 _ 12 (by omega)).mpr ⟨_, by omega, rfl⟩,
        (mem_piece j x1 x2 _ _ y).mpr ⟨h0, rfl⟩⟩
  · rw [if_neg h0]
    refine View.read_writes_apply_of_forall_not_mem m.view f y _ fun p hp => ?_
    obtain ⟨g, hg, rfl⟩ := (mem_slabL j x1 x2 p 12 (by omega)).mp hp
    exact fun hm => h0 ((mem_piece j x1 x2 _ _ y).mp hm).1

/-- A load of slab `j` of a whole memref reads its contents there. -/
theorem ld_slab (m : Memref sig .tc .vmem S7x1536x1280 .bf16) (f : m.view.ty.Contents (Elt F)) (j : Fin 7) (off : Fin 3 → Nat)
    (h : ∀ a, off a + S1x1536x1280.size a ≤ S7x1536x1280.size a) (ho : off = ![j.val, 0, 0]) :
    View.readAt (Elt F) m.view (Rect.unit (s := S7x1536x1280) off S1x1536x1280.size h).toLoadRect f
      = fun y => getD (m.view.read (Elt F) f) j (ix2 (y 1) (y 2)) := by
  subst ho
  funext y
  rw [View.readAt_apply]
  refine congrArg (m.view.read (Elt F) f) (funext fun a => Fin.ext ?_)
  have hy : (y 0).val < 1 := (y 0).isLt
  match a with
  | ⟨0, _⟩ => exact (show j.val + 1 * (y 0).val = j.val by omega)
  | ⟨1, _⟩ => exact (show 0 + 1 * (y 1).val = (y 1).val by omega)
  | ⟨2, _⟩ => exact (show 0 + 1 * (y 2).val = (y 2).val by omega)

/-- A load of row `j` of the kept gains reads the memref's contents there. -/
theorem ld_gain (m : Memref sig .tc .vmem S7x1x1280 .f32) (f : m.view.ty.Contents (Elt F)) (j : Fin 7) (off : Fin 3 → Nat)
    (h : ∀ a, off a + S1x1x1280.size a ≤ S7x1x1280.size a) (ho : off = ![j.val, 0, 0]) :
    View.readAt (Elt F) m.view (Rect.unit (s := S7x1x1280) off S1x1x1280.size h).toLoadRect f
      = fun y => getG (m.view.read (Elt F) f) j (ix2 (y 1) (y 2)) := by
  subst ho
  funext y
  rw [View.readAt_apply]
  refine congrArg (m.view.read (Elt F) f) (funext fun a => Fin.ext ?_)
  have hy : (y 0).val < 1 := (y 0).isLt
  match a with
  | ⟨0, _⟩ => exact (show j.val + 1 * (y 0).val = j.val by omega)
  | ⟨1, _⟩ => exact (show 0 + 1 * (y 1).val = (y 1).val by omega)
  | ⟨2, _⟩ => exact (show 0 + 1 * (y 2).val = (y 2).val by omega)

/-- After the store of a row of gains that row holds them and the others what they held. -/
theorem read_gain (m : Memref sig .tc .vmem S7x1x1280 .f32) (f : m.view.ty.Contents (Elt F)) (j : Fin 7) (off : Fin 3 → Nat)
    (h : ∀ a, off a + S1x1x1280.size a ≤ S7x1x1280.size a) (ho : off = ![j.val, 0, 0]) (r : Vec F S1x1280 .f32)
    (w : Vec F S1x1x1280 .f32) (hw : w = shapeCast S1x1x1280 r shapeCasts_S1x1280_S1x1x1280) :
    m.view.read (Elt F) (m.view.writes (Elt F) f [⟨Rect.unit off S1x1x1280.size h, w⟩]) = setG (m.view.read (Elt F) f) j.val r := by
  subst ho hw
  funext y
  unfold setG
  have h1 : (y 1).val < 1 := (y 1).isLt
  by_cases h0 : (y 0).val = j.val
  · rw [if_pos h0]
    rw [View.read_writes_cons_hit_of_coords m.view f _ _ [] (ix3 (0 : Fin 1) (y 1 : Fin 1) (y 2 : Fin 1280)) y (fun a => by
      match a with
      | ⟨0, _⟩ => exact (show (y 0).val = j.val + 1 * 0 by omega)
      | ⟨1, _⟩ => exact (show (y 1).val = 0 + 1 * (y 1).val by omega)
      | ⟨2, _⟩ => exact (show (y 2).val = 0 + 1 * (y 2).val by omega))]
    refine (shapeCast_addUnit_apply (![1, 1280] : Fin 2 → Nat) r shapeCasts_S1x1280_S1x1x1280 _).trans ?_
    exact congrArg r (funext fun a => match a with | ⟨0, _⟩ => rfl | ⟨1, _⟩ => rfl)
  · rw [if_neg h0]
    refine View.read_writes_cons_miss_of_axis m.view f _ [] y 0 j.val 1 rfl rfl rfl ?_
    omega

/-- A store of a whole block leaves the block. -/
theorem read_store_whole {R C : Nat} {e : EltTy} (m : Memref sig .tc .vmem ⟨2, ![R, C]⟩ e) (f : m.view.ty.Contents (Elt F))
    (h : ∀ a, (![0, 0] : Fin 2 → Nat) a + (⟨2, ![R, C]⟩ : Shape).size a ≤ (⟨2, ![R, C]⟩ : Shape).size a) (w : Vec F ⟨2, ![R, C]⟩ e) :
    m.view.read (Elt F) (m.view.writes (Elt F) f [⟨Rect.unit ![0, 0] (⟨2, ![R, C]⟩ : Shape).size h, w⟩]) = w := by
  funext y
  exact View.read_writes_cons_hit_of_coords m.view f (Rect.unit ![0, 0] (⟨2, ![R, C]⟩ : Shape).size h) w [] y y (fun a => by
      match a with
      | ⟨0, _⟩ => exact (show (y 0).val = 0 + 1 * (y 0).val by omega)
      | ⟨1, _⟩ => exact (show (y 1).val = 0 + 1 * (y 1).val by omega))

/-- Reading back the slab just set. -/
theorem getD_setD (s : Vec F S7x1536x1280 .bf16) (j : Fin 7) (d : Vec F S1536x1280 .bf16) : getD (setD s j.val d) j = d := by
  funext y
  exact (if_pos rfl).trans (congrArg d (ix2_eta y))

/-- Reading back the row just set. -/
theorem getG_setG (s : Vec F S7x1x1280 .f32) (j : Fin 7) (r : Vec F S1x1280 .f32) : getG (setG s j.val r) j = r := by
  funext y
  exact (if_pos rfl).trans (congrArg r (ix2_eta y))

/-- Writing one column block of decoded weights leaves the others. -/
theorem getD_setD_ne (s : Vec F S7x1536x1280 .bf16) (j : Nat) (k : Fin 7) (h : k.val ≠ j) (d : Vec F S1536x1280 .bf16) :
    getD (setD s j d) k = getD s k := by
  funext y
  exact if_neg h

/-- Writing one column block of gains leaves the others. -/
theorem getG_setG_ne (s : Vec F S7x1x1280 .f32) (j : Nat) (k : Fin 7) (h : k.val ≠ j) (r : Vec F S1x1280 .f32) :
    getG (setG s j r) k = getG s k := by
  funext y
  exact if_neg h

/-! ## The loads that follow the stores at the same point -/

/-- The slab read back after its twelve stores. -/
theorem cov_slab (m : Memref sig .tc .vmem S7x1536x1280 .bf16) (j : Fin 7) (x1 : Vec F S768x1280 .i8) (x2 : Vec F S12x1280 .bf16)
    (L : List (View.Piece (Elt F) S7x1536x1280 .bf16)) (hL : L = slabL j x1 x2 12 (by omega)) (off : Fin 3 → Nat)
    (h : ∀ a, off a + S1x1536x1280.size a ≤ S7x1536x1280.size a) (ho : off = ![j.val, 0, 0]) :
    View.readCov (Val := Elt F) m.view L (Rect.unit (s := S7x1536x1280) off S1x1536x1280.size h).toLoadRect
      = fun y => decD x1 x2 (ix2 (y 1) (y 2)) := by
  subst hL
  unfold View.readCov
  rw [ld_slab m _ j off h ho, read_slab, getD_setD]

/-- The row of gains read back after its store. -/
theorem cov_gain (m : Memref sig .tc .vmem S7x1x1280 .f32) (j : Fin 7) (r : Vec F S1x1280 .f32) (off off' : Fin 3 → Nat)
    (h : ∀ a, off a + S1x1x1280.size a ≤ S7x1x1280.size a) (ho : off = ![j.val, 0, 0])
    (h' : ∀ a, off' a + S1x1x1280.size a ≤ S7x1x1280.size a) (ho' : off' = ![j.val, 0, 0])
    (w : Vec F S1x1x1280 .f32) (hw : w = shapeCast S1x1x1280 r shapeCasts_S1x1280_S1x1x1280) :
    View.readCov (Val := Elt F) m.view [⟨Rect.unit off' S1x1x1280.size h', w⟩] (Rect.unit (s := S7x1x1280) off S1x1x1280.size h).toLoadRect
      = fun y => r (ix2 (y 1) (y 2)) := by
  unfold View.readCov
  rw [ld_gain m _ j off h ho, read_gain m _ j off' h' ho' r w hw, getG_setG]

/-- A whole block read back after its store. -/
theorem cov_whole {R C : Nat} {e : EltTy} (m : Memref sig .tc .vmem ⟨2, ![R, C]⟩ e)
    (h h' : ∀ a, (![0, 0] : Fin 2 → Nat) a + (⟨2, ![R, C]⟩ : Shape).size a ≤ (⟨2, ![R, C]⟩ : Shape).size a) (w w' : Vec F ⟨2, ![R, C]⟩ e)
    (hw : w = w') :
    View.readCov (Val := Elt F) m.view [⟨Rect.unit ![0, 0] (⟨2, ![R, C]⟩ : Shape).size h', w⟩]
      (Rect.unit (s := ⟨2, ![R, C]⟩) ![0, 0] (⟨2, ![R, C]⟩ : Shape).size h).toLoadRect = w' := by
  subst hw
  unfold View.readCov
  funext y
  rw [View.readAt_apply, read_store_whole m _ h' w]
  refine congrArg w (funext fun a => Fin.ext ?_)
  match a with
  | ⟨0, _⟩ => exact (show 0 + 1 * (y 0).val = (y 0).val by omega)
  | ⟨1, _⟩ => exact (show 0 + 1 * (y 1).val = (y 1).val by omega)

/-- The output payload over named operands. -/
theorem pay4_eq {v6 : Vec F S1024x1536 .bf16} {v9 : Vec F S1x1536x1280 .bf16} {v12 : Vec F S1024x64 .bf16} {v13 : Vec F S64x1280 .bf16}
    {v17 : Vec F S1x1x1280 .f32} {x0 : Vec F S1024x1536 .bf16} {d : Vec F S1536x1280 .bf16} {xa : Vec F S1024x64 .bf16}
    {x4 : Vec F S64x1280 .bf16} {g : Vec F S1x1280 .f32} (h6 : v6 = x0) (h9 : v9 = fun y => d (ix2 (y 1) (y 2))) (h12 : v12 = xa)
    (h13 : v13 = x4) (h17 : v17 = fun y => g (ix2 (y 1) (y 2))) : k0_pay4 v6 v9 v12 v13 v17 = outBlk x0 d xa x4 g := by
  subst h6 h9 h12 h13 h17; rfl

end Cert.KernelIdeal.Val
end
-- ==== Proof.RunA.lean ====
module

public import proofs.«01_k».proof.Proof.Blocks
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 2000000 in
/-- At the first grid point the body decodes the column block, computes its norms and gains and the low-rank product of its rows, and writes the output block from them. -/
theorem run_A (c : Dev nD) (i : grid0.Coords) (arg2 : Memref sig .tc .vmem S1024x1536 .bf16) (harg2 : arg2.IsWhole) (arg3 : Memref sig .tc .vmem S768x1280 .i8) (harg3 : arg3.IsWhole) (arg4 : Memref sig .tc .vmem S12x1280 .bf16) (harg4 : arg4.IsWhole) (arg5 : Memref sig .tc .vmem S1536x64 .bf16) (harg5 : arg5.IsWhole) (arg6 : Memref sig .tc .vmem S64x1280 .bf16) (harg6 : arg6.IsWhole) (arg7 : Memref sig .tc .vmem S1x1280 .f32) (harg7 : arg7.IsWhole) (arg8 : Memref sig .tc .vmem S1024x1280 .bf16) (harg8 : arg8.IsWhole) (arg9 : Memref sig .tc .vmem S1x1280 .f32) (harg9 : arg9.IsWhole) (arg10 : Memref sig .tc .vmem S7x1536x1280 .bf16) (harg10 : arg10.IsWhole) (arg11 : Memref sig .tc .vmem S7x1x1280 .f32) (harg11 : arg11.IsWhole) (arg12 : Memref sig .tc .vmem S1024x64 .bf16) (harg12 : arg12.IsWhole) (hc0 : cond0_0 i) (hc1 : cond0_1 i)
    (x0 : Vec F S1024x1536 .bf16) (x1 : Vec F S768x1280 .i8) (x2 : Vec F S12x1280 .bf16) (x3 : Vec F S1536x64 .bf16) (x4 : Vec F S64x1280 .bf16) (x5 : Vec F S1x1280 .f32) (x7 : Vec F S1x1280 .f32) (s0 : Vec F S7x1536x1280 .bf16) (s1 : Vec F S7x1x1280 .f32) (s2 : Vec F S1024x64 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare s0 ∗ owns (c : Thread nD τ) arg11 fullShare s1 ∗ owns (c : Thread nD τ) arg12 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlk x0 (decD x1 x2) (k0_pay3 x0 x3) x4 (gainRow x1 x2 x3 x4 x5)) ∗ owns (c : Thread nD τ) arg9 fullShare (normRow x1 x2 x3 x4) ∗ owns (c : Thread nD τ) arg10 fullShare (setD s0 (i 1).val (decD x1 x2)) ∗ owns (c : Thread nD τ) arg11 fullShare (setG s1 (i 1).val (gainRow x1 x2 x3 x4 x5)) ∗ owns (c : Thread nD τ) arg12 fullShare (k0_pay3 x0 x3)) -∗ K ⟨⟩))
          ⊢ wp frame (wpE (defs₀ (F := F)) Variants.none c none) E (cc0_dora_int4_linear i arg2 harg2 arg3 harg3 arg4 harg4 arg5 harg5 arg6 harg6 arg7 harg7 arg8 harg8 arg9 harg9 arg10 harg10 arg11 harg11 arg12 harg12) K := by
    intro E K
    simp only [cc0_dora_int4_linear_eq_skeleton]; unfold cc0_dora_int4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hs0; obtain rfl := harg11.eq_unread hs1; obtain rfl := harg12.eq_unread hs2
    sl_exec (disch := first | sl_exact hc0 | sl_exact hc1)
    sl_step
    iapply Hk
    isplitl [H0]
    · iexists _; isplitr; swap; · iexact H0
      ipureintro; exact harg2.read_unread x0
    isplitl [H1]
    · iexists _; isplitr; swap; · iexact H1
      ipureintro; exact harg3.read_unread x1
    isplitl [H2]
    · iexists _; isplitr; swap; · iexact H2
      ipureintro; exact harg4.read_unread x2
    isplitl [H3]
    · iexists _; isplitr; swap; · iexact H3
      ipureintro; exact harg5.read_unread x3
    isplitl [H4]
    · iexists _; isplitr; swap; · iexact H4
      ipureintro; exact harg6.read_unread x4
    isplitl [H5]
    · iexists _; isplitr; swap; · iexact H5
      ipureintro; exact harg7.read_unread x5
    isplitl [H6]
    · iexists _; isplitr; swap; · iexact H6
      ipureintro
      refine (read_store_whole arg8 _ _ _).trans ?_
      refine pay4_eq (ld_whole arg2 harg2 x0 _) ?_ ?_ (ld_whole arg6 harg6 x4 _) ?_
      · refine cov_slab arg10 (i 1) x1 x2 _ ?_ _ _ (k0_off14_eq i)
        exact (congrArg₂ List.cons (piece_eq (i 1) x1 x2 11 (by decide) _ _ (k0_off12_eq i) _ ((pay50_eq _ _).trans (congrArg k0_pay47 (grp_eq (g := 11) (ld_codes arg3 harg3 x1 704 _ rfl) (ld_scale arg4 harg4 x2 11 _)))))
          (congrArg₂ List.cons (piece_eq (i 1) x1 x2 10 (by decide) _ _ (k0_off11_eq i) _ (congrArg k0_pay47 (grp_eq (g := 10) (ld_codes arg3 harg3 x1 640 _ rfl) (ld_scale arg4 harg4 x2 10 _))))
          (congrArg₂ List.cons (piece_eq (i 1) x1 x2 9 (by decide) _ _ (k0_off10_eq i) _ ((pay44_eq _ _).trans (congrArg k0_pay47 (grp_eq (g := 9) (ld_codes arg3 harg3 x1 576 _ rfl) (ld_scale arg4 harg4 x2 9 _)))))
          (congrArg₂ List.cons (piece_eq (i 1) x1 x2 8 (by decide) _ _ (k0_off9_eq i) _ ((pay39_eq _ _).trans (congrArg k0_pay47 (grp_eq (g := 8) (ld_codes arg3 harg3 x1 512 _ rfl) (ld_scale arg4 harg4 x2 8 _)))))
          (congrArg₂ List.cons (piece_eq (i 1) x1 x2 7 (by decide) _ _ (k0_off8_eq i) _ ((pay34_eq _ _).trans (congrArg k0_pay47 (grp_eq (g := 7) (ld_codes arg3 harg3 x1 448 _ rfl) (ld_scale arg4 harg4 x2 7 _)))))
          (congrArg₂ List.cons (piece_eq (i 1) x1 x2 6 (by decide) _ _ (k0_off7_eq i) _ ((pay31_eq _ _).trans (congrArg k0_pay47 (grp_eq (g := 6) (ld_codes arg3 harg3 x1 384 _ rfl) (ld_scale arg4 harg4 x2 6 _)))))
          (congrArg₂ List.cons (piece_eq (i 1) x1 x2 5 (by decide) _ _ (k0_off6_eq i) _ ((pay27_eq _ _).trans (congrArg k0_pay47 (grp_eq (g := 5) (ld_codes arg3 harg3 x1 320 _ rfl) (ld_scale arg4 harg4 x2 5 _)))))
          (congrArg₂ List.cons (piece_eq (i 1) x1 x2 4 (by decide) _ _ (k0_off5_eq i) _ ((pay24_eq _ _).trans (congrArg k0_pay47 (grp_eq (g := 4) (ld_codes arg3 harg3 x1 256 _ rfl) (ld_scale arg4 harg4 x2 4 _)))))
          (congrArg₂ List.cons (piece_eq (i 1) x1 x2 3 (by decide) _ _ (k0_off4_eq i) _ ((pay21_eq _ _).trans (congrArg k0_pay47 (grp_eq (g := 3) (ld_codes arg3 harg3 x1 192 _ rfl) (ld_scale arg4 harg4 x2 3 _)))))
          (congrArg₂ List.cons (piece_eq (i 1) x1 x2 2 (by decide) _ _ (k0_off3_eq i) _ ((pay16_eq _ _).trans (congrArg k0_pay47 (grp_eq (g := 2) (ld_codes arg3 harg3 x1 128 _ rfl) (ld_scale arg4 harg4 x2 2 _)))))
          (congrArg₂ List.cons (piece_eq (i 1) x1 x2 1 (by decide) _ _ (k0_off2_eq i) _ ((pay10_eq _ _).trans (congrArg k0_pay47 (grp_eq (g := 1) (ld_codes arg3 harg3 x1 64 _ rfl) (ld_scale arg4 harg4 x2 1 _)))))
          (congrArg₂ List.cons (piece_eq (i 1) x1 x2 0 (by decide) _ _ (k0_off1_eq i) _ ((pay6_eq _ _).trans (congrArg k0_pay47 (grp_eq (g := 0) (ld_codes arg3 harg3 x1 0 _ rfl) (ld_scale arg4 harg4 x2 0 _)))))
          rfl))))))))))))
      · exact cov_whole arg12 _ _ _ _ (congrArg₂ k0_pay3 (ld_whole arg2 harg2 x0 _) (ld_whole arg5 harg5 x3 _))
      · refine cov_gain arg11 (i 1) _ _ _ _ (k0_off15_eq i) _ (k0_off13_eq i) _ ?_
        exact (pay2_eq _ _ _ _ _).trans (gain_eq (ld_whole arg7 harg7 x5 _)
          (step_eq (g := 11) (step_eq (g := 10) ((pay45_eq _ _ _ _ _).trans (step_eq (g := 9) ((pay40_eq _ _ _ _ _).trans (step_eq (g := 8) ((pay35_eq _ _ _ _ _).trans (step_eq (g := 7) ((pay32_eq _ _ _ _ _ _ _ _ _).trans (step_eq (g := 6) (step_eq (g := 5) ((pay25_eq _ _ _ _).trans (step_eq (g := 4) ((pay22_eq _ _ _ _ _).trans (step_eq (g := 3) ((pay17_eq _ _ _ _ _).trans (step_eq (g := 2) ((pay11_eq _ _ _ _ _).trans (step_eq (g := 1) ((pay7_eq _ _ _ _).trans (step_eq (g := 0) rfl (grp_eq (g := 0) (ld_codes arg3 harg3 x1 0 _ rfl) (ld_scale arg4 harg4 x2 0 _)) (ld_a arg5 harg5 x3 0 _ rfl) (ld_whole arg6 harg6 x4 _))) (grp_eq (g := 1) (ld_codes arg3 harg3 x1 64 _ rfl) (ld_scale arg4 harg4 x2 1 _)) (ld_a arg5 harg5 x3 128 _ rfl) (ld_whole arg6 harg6 x4 _))) (grp_eq (g := 2) (ld_codes arg3 harg3 x1 128 _ rfl) (ld_scale arg4 harg4 x2 2 _)) (ld_a arg5 harg5 x3 256 _ rfl) (ld_whole arg6 harg6 x4 _))) (grp_eq (g := 3) (ld_codes arg3 harg3 x1 192 _ rfl) (ld_scale arg4 harg4 x2 3 _)) (ld_a arg5 harg5 x3 384 _ rfl) (ld_whole arg6 harg6 x4 _))) ((pay23_eq _ _).trans (grp_eq (g := 4) (ld_codes arg3 harg3 x1 256 _ rfl) (ld_scale arg4 harg4 x2 4 _))) (ld_a arg5 harg5 x3 512 _ rfl) (ld_whole arg6 harg6 x4 _))) (grp_eq (g := 5) (ld_codes arg3 harg3 x1 320 _ rfl) (ld_scale arg4 harg4 x2 5 _)) (ld_a arg5 harg5 x3 640 _ rfl) (ld_whole arg6 harg6 x4 _)) (grp_eq (g := 6) (ld_codes arg3 harg3 x1 384 _ rfl) (ld_scale arg4 harg4 x2 6 _)) (ld_a arg5 harg5 x3 768 _ rfl) (ld_whole arg6 harg6 x4 _))) (grp_eq (g := 7) (ld_codes arg3 harg3 x1 448 _ rfl) (ld_scale arg4 harg4 x2 7 _)) (ld_a arg5 harg5 x3 896 _ rfl) (ld_whole arg6 harg6 x4 _))) (grp_eq (g := 8) (ld_codes arg3 harg3 x1 512 _ rfl) (ld_scale arg4 harg4 x2 8 _)) (ld_a arg5 harg5 x3 1024 _ rfl) (ld_whole arg6 harg6 x4 _))) (grp_eq (g := 9) (ld_codes arg3 harg3 x1 576 _ rfl) (ld_scale arg4 harg4 x2 9 _)) (ld_a arg5 harg5 x3 1152 _ rfl) (ld_whole arg6 harg6 x4 _))) (grp_eq (g := 10) (ld_codes arg3 harg3 x1 640 _ rfl) (ld_scale arg4 harg4 x2 10 _)) (ld_a arg5 harg5 x3 1280 _ rfl) (ld_whole arg6 harg6 x4 _)) ((pay49_eq _ _).trans (grp_eq (g := 11) (ld_codes arg3 harg3 x1 704 _ rfl) (ld_scale arg4 harg4 x2 11 _))) (ld_a arg5 harg5 x3 1408 _ rfl) (ld_whole arg6 harg6 x4 _)))
    isplitl [H7]
    · iexists _; isplitr; swap; · iexact H7
      ipureintro
      refine (read_store_whole arg9 _ _ _).trans ?_
      exact (pay1_eq _ _ _ _).trans (congrArg sqrt
        (step_eq (g := 11) (step_eq (g := 10) ((pay45_eq _ _ _ _ _).trans (step_eq (g := 9) ((pay40_eq _ _ _ _ _).trans (step_eq (g := 8) ((pay35_eq _ _ _ _ _).trans (step_eq (g := 7) ((pay32_eq _ _ _ _ _ _ _ _ _).trans (step_eq (g := 6) (step_eq (g := 5) ((pay25_eq _ _ _ _).trans (step_eq (g := 4) ((pay22_eq _ _ _ _ _).trans (step_eq (g := 3) ((pay17_eq _ _ _ _ _).trans (step_eq (g := 2) ((pay11_eq _ _ _ _ _).trans (step_eq (g := 1) ((pay7_eq _ _ _ _).trans (step_eq (g := 0) rfl (grp_eq (g := 0) (ld_codes arg3 harg3 x1 0 _ rfl) (ld_scale arg4 harg4 x2 0 _)) (ld_a arg5 harg5 x3 0 _ rfl) (ld_whole arg6 harg6 x4 _))) (grp_eq (g := 1) (ld_codes arg3 harg3 x1 64 _ rfl) (ld_scale arg4 harg4 x2 1 _)) (ld_a arg5 harg5 x3 128 _ rfl) (ld_whole arg6 harg6 x4 _))) (grp_eq (g := 2) (ld_codes arg3 harg3 x1 128 _ rfl) (ld_scale arg4 harg4 x2 2 _)) (ld_a arg5 harg5 x3 256 _ rfl) (ld_whole arg6 harg6 x4 _))) (grp_eq (g := 3) (ld_codes arg3 harg3 x1 192 _ rfl) (ld_scale arg4 harg4 x2 3 _)) (ld_a arg5 harg5 x3 384 _ rfl) (ld_whole arg6 harg6 x4 _))) ((pay23_eq _ _).trans (grp_eq (g := 4) (ld_codes arg3 harg3 x1 256 _ rfl) (ld_scale arg4 harg4 x2 4 _))) (ld_a arg5 harg5 x3 512 _ rfl) (ld_whole arg6 harg6 x4 _))) (grp_eq (g := 5) (ld_codes arg3 harg3 x1 320 _ rfl) (ld_scale arg4 harg4 x2 5 _)) (ld_a arg5 harg5 x3 640 _ rfl) (ld_whole arg6 harg6 x4 _)) (grp_eq (g := 6) (ld_codes arg3 harg3 x1 384 _ rfl) (ld_scale arg4 harg4 x2 6 _)) (ld_a arg5 harg5 x3 768 _ rfl) (ld_whole arg6 harg6 x4 _))) (grp_eq (g := 7) (ld_codes arg3 harg3 x1 448 _ rfl) (ld_scale arg4 harg4 x2 7 _)) (ld_a arg5 harg5 x3 896 _ rfl) (ld_whole arg6 harg6 x4 _))) (grp_eq (g := 8) (ld_codes arg3 harg3 x1 512 _ rfl) (ld_scale arg4 harg4 x2 8 _)) (ld_a arg5 harg5 x3 1024 _ rfl) (ld_whole arg6 harg6 x4 _))) (grp_eq (g := 9) (ld_codes arg3 harg3 x1 576 _ rfl) (ld_scale arg4 harg4 x2 9 _)) (ld_a arg5 harg5 x3 1152 _ rfl) (ld_whole arg6 harg6 x4 _))) (grp_eq (g := 10) (ld_codes arg3 harg3 x1 640 _ rfl) (ld_scale arg4 harg4 x2 10 _)) (ld_a arg5 harg5 x3 1280 _ rfl) (ld_whole arg6 harg6 x4 _)) ((pay49_eq _ _).trans (grp_eq (g := 11) (ld_codes arg3 harg3 x1 704 _ rfl) (ld_scale arg4 harg4 x2 11 _))) (ld_a arg5 harg5 x3 1408 _ rfl) (ld_whole arg6 harg6 x4 _)))
    isplitl [HS0]
    · iexists _; isplitr; swap; · iexact HS0
      ipureintro
      refine Eq.trans (congrArg (fun L => arg10.view.read (Elt F) (arg10.view.writes (Elt F) (harg10.unread s0) L)) ?_) ((read_slab arg10 _ (i 1) x1 x2).trans (by rw [harg10.read_unread]))
      exact (congrArg₂ List.cons (piece_eq (i 1) x1 x2 11 (by decide) _ _ (k0_off12_eq i) _ ((pay50_eq _ _).trans (congrArg k0_pay47 (grp_eq (g := 11) (ld_codes arg3 harg3 x1 704 _ rfl) (ld_scale arg4 harg4 x2 11 _)))))
        (congrArg₂ List.cons (piece_eq (i 1) x1 x2 10 (by decide) _ _ (k0_off11_eq i) _ (congrArg k0_pay47 (grp_eq (g := 10) (ld_codes arg3 harg3 x1 640 _ rfl) (ld_scale arg4 harg4 x2 10 _))))
        (congrArg₂ List.cons (piece_eq (i 1) x1 x2 9 (by decide) _ _ (k0_off10_eq i) _ ((pay44_eq _ _).trans (congrArg k0_pay47 (grp_eq (g := 9) (ld_codes arg3 harg3 x1 576 _ rfl) (ld_scale arg4 harg4 x2 9 _)))))
        (congrArg₂ List.cons (piece_eq (i 1) x1 x2 8 (by decide) _ _ (k0_off9_eq i) _ ((pay39_eq _ _).trans (congrArg k0_pay47 (grp_eq (g := 8) (ld_codes arg3 harg3 x1 512 _ rfl) (ld_scale arg4 harg4 x2 8 _)))))
        (congrArg₂ List.cons (piece_eq (i 1) x1 x2 7 (by decide) _ _ (k0_off8_eq i) _ ((pay34_eq _ _).trans (congrArg k0_pay47 (grp_eq (g := 7) (ld_codes arg3 harg3 x1 448 _ rfl) (ld_scale arg4 harg4 x2 7 _)))))
        (congrArg₂ List.cons (piece_eq (i 1) x1 x2 6 (by decide) _ _ (k0_off7_eq i) _ ((pay31_eq _ _).trans (congrArg k0_pay47 (grp_eq (g := 6) (ld_codes arg3 harg3 x1 384 _ rfl) (ld_scale arg4 harg4 x2 6 _)))))
        (congrArg₂ List.cons (piece_eq (i 1) x1 x2 5 (by decide) _ _ (k0_off6_eq i) _ ((pay27_eq _ _).trans (congrArg k0_pay47 (grp_eq (g := 5) (ld_codes arg3 harg3 x1 320 _ rfl) (ld_scale arg4 harg4 x2 5 _)))))
        (congrArg₂ List.cons (piece_eq (i 1) x1 x2 4 (by decide) _ _ (k0_off5_eq i) _ ((pay24_eq _ _).trans (congrArg k0_pay47 (grp_eq (g := 4) (ld_codes arg3 harg3 x1 256 _ rfl) (ld_scale arg4 harg4 x2 4 _)))))
        (congrArg₂ List.cons (piece_eq (i 1) x1 x2 3 (by decide) _ _ (k0_off4_eq i) _ ((pay21_eq _ _).trans (congrArg k0_pay47 (grp_eq (g := 3) (ld_codes arg3 harg3 x1 192 _ rfl) (ld_scale arg4 harg4 x2 3 _)))))
        (congrArg₂ List.cons (piece_eq (i 1) x1 x2 2 (by decide) _ _ (k0_off3_eq i) _ ((pay16_eq _ _).trans (congrArg k0_pay47 (grp_eq (g := 2) (ld_codes arg3 harg3 x1 128 _ rfl) (ld_scale arg4 harg4 x2 2 _)))))
        (congrArg₂ List.cons (piece_eq (i 1) x1 x2 1 (by decide) _ _ (k0_off2_eq i) _ ((pay10_eq _ _).trans (congrArg k0_pay47 (grp_eq (g := 1) (ld_codes arg3 harg3 x1 64 _ rfl) (ld_scale arg4 harg4 x2 1 _)))))
        (congrArg₂ List.cons (piece_eq (i 1) x1 x2 0 (by decide) _ _ (k0_off1_eq i) _ ((pay6_eq _ _).trans (congrArg k0_pay47 (grp_eq (g := 0) (ld_codes arg3 harg3 x1 0 _ rfl) (ld_scale arg4 harg4 x2 0 _)))))
        rfl))))))))))))
    isplitl [HS1]
    · iexists _; isplitr; swap; · iexact HS1
      ipureintro
      refine (read_gain arg11 _ (i 1) _ _ (k0_off13_eq i) (gainRow x1 x2 x3 x4 x5) _ ?_).trans (by rw [harg11.read_unread])
      exact (pay2_eq _ _ _ _ _).trans (gain_eq (ld_whole arg7 harg7 x5 _)
        (step_eq (g := 11) (step_eq (g := 10) ((pay45_eq _ _ _ _ _).trans (step_eq (g := 9) ((pay40_eq _ _ _ _ _).trans (step_eq (g := 8) ((pay35_eq _ _ _ _ _).trans (step_eq (g := 7) ((pay32_eq _ _ _ _ _ _ _ _ _).trans (step_eq (g := 6) (step_eq (g := 5) ((pay25_eq _ _ _ _).trans (step_eq (g := 4) ((pay22_eq _ _ _ _ _).trans (step_eq (g := 3) ((pay17_eq _ _ _ _ _).trans (step_eq (g := 2) ((pay11_eq _ _ _ _ _).trans (step_eq (g := 1) ((pay7_eq _ _ _ _).trans (step_eq (g := 0) rfl (grp_eq (g := 0) (ld_codes arg3 harg3 x1 0 _ rfl) (ld_scale arg4 harg4 x2 0 _)) (ld_a arg5 harg5 x3 0 _ rfl) (ld_whole arg6 harg6 x4 _))) (grp_eq (g := 1) (ld_codes arg3 harg3 x1 64 _ rfl) (ld_scale arg4 harg4 x2 1 _)) (ld_a arg5 harg5 x3 128 _ rfl) (ld_whole arg6 harg6 x4 _))) (grp_eq (g := 2) (ld_codes arg3 harg3 x1 128 _ rfl) (ld_scale arg4 harg4 x2 2 _)) (ld_a arg5 harg5 x3 256 _ rfl) (ld_whole arg6 harg6 x4 _))) (grp_eq (g := 3) (ld_codes arg3 harg3 x1 192 _ rfl) (ld_scale arg4 harg4 x2 3 _)) (ld_a arg5 harg5 x3 384 _ rfl) (ld_whole arg6 harg6 x4 _))) ((pay23_eq _ _).trans (grp_eq (g := 4) (ld_codes arg3 harg3 x1 256 _ rfl) (ld_scale arg4 harg4 x2 4 _))) (ld_a arg5 harg5 x3 512 _ rfl) (ld_whole arg6 harg6 x4 _))) (grp_eq (g := 5) (ld_codes arg3 harg3 x1 320 _ rfl) (ld_scale arg4 harg4 x2 5 _)) (ld_a arg5 harg5 x3 640 _ rfl) (ld_whole arg6 harg6 x4 _)) (grp_eq (g := 6) (ld_codes arg3 harg3 x1 384 _ rfl) (ld_scale arg4 harg4 x2 6 _)) (ld_a arg5 harg5 x3 768 _ rfl) (ld_whole arg6 harg6 x4 _))) (grp_eq (g := 7) (ld_codes arg3 harg3 x1 448 _ rfl) (ld_scale arg4 harg4 x2 7 _)) (ld_a arg5 harg5 x3 896 _ rfl) (ld_whole arg6 harg6 x4 _))) (grp_eq (g := 8) (ld_codes arg3 harg3 x1 512 _ rfl) (ld_scale arg4 harg4 x2 8 _)) (ld_a arg5 harg5 x3 1024 _ rfl) (ld_whole arg6 harg6 x4 _))) (grp_eq (g := 9) (ld_codes arg3 harg3 x1 576 _ rfl) (ld_scale arg4 harg4 x2 9 _)) (ld_a arg5 harg5 x3 1152 _ rfl) (ld_whole arg6 harg6 x4 _))) (grp_eq (g := 10) (ld_codes arg3 harg3 x1 640 _ rfl) (ld_scale arg4 harg4 x2 10 _)) (ld_a arg5 harg5 x3 1280 _ rfl) (ld_whole arg6 harg6 x4 _)) ((pay49_eq _ _).trans (grp_eq (g := 11) (ld_codes arg3 harg3 x1 704 _ rfl) (ld_scale arg4 harg4 x2 11 _))) (ld_a arg5 harg5 x3 1408 _ rfl) (ld_whole arg6 harg6 x4 _)))
    iexists _; isplitr; swap; · iexact HS2
    ipureintro
    refine (read_store_whole arg12 _ _ _).trans ?_
    exact congrArg₂ k0_pay3 (ld_whole arg2 harg2 x0 _) (ld_whole arg5 harg5 x3 _)

end Cert.KernelIdeal.Val
end
-- ==== Proof.RunB.lean ====
module

public import proofs.«01_k».proof.Proof.Blocks
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 2000000 in
/-- At the other points of the first row of blocks the body decodes the column block, computes its norms and gains, and uses the low-rank product kept from the first point. -/
theorem run_B (c : Dev nD) (i : grid0.Coords) (arg2 : Memref sig .tc .vmem S1024x1536 .bf16) (harg2 : arg2.IsWhole) (arg3 : Memref sig .tc .vmem S768x1280 .i8) (harg3 : arg3.IsWhole) (arg4 : Memref sig .tc .vmem S12x1280 .bf16) (harg4 : arg4.IsWhole) (arg5 : Memref sig .tc .vmem S1536x64 .bf16) (harg5 : arg5.IsWhole) (arg6 : Memref sig .tc .vmem S64x1280 .bf16) (harg6 : arg6.IsWhole) (arg7 : Memref sig .tc .vmem S1x1280 .f32) (harg7 : arg7.IsWhole) (arg8 : Memref sig .tc .vmem S1024x1280 .bf16) (harg8 : arg8.IsWhole) (arg9 : Memref sig .tc .vmem S1x1280 .f32) (harg9 : arg9.IsWhole) (arg10 : Memref sig .tc .vmem S7x1536x1280 .bf16) (harg10 : arg10.IsWhole) (arg11 : Memref sig .tc .vmem S7x1x1280 .f32) (harg11 : arg11.IsWhole) (arg12 : Memref sig .tc .vmem S1024x64 .bf16) (harg12 : arg12.IsWhole) (hc0 : cond0_0 i) (hc1 : ¬ cond0_1 i)
    (x0 : Vec F S1024x1536 .bf16) (x1 : Vec F S768x1280 .i8) (x2 : Vec F S12x1280 .bf16) (x3 : Vec F S1536x64 .bf16) (x4 : Vec F S64x1280 .bf16) (x5 : Vec F S1x1280 .f32) (x7 : Vec F S1x1280 .f32) (s0 : Vec F S7x1536x1280 .bf16) (s1 : Vec F S7x1x1280 .f32) (s2 : Vec F S1024x64 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare s0 ∗ owns (c : Thread nD τ) arg11 fullShare s1 ∗ owns (c : Thread nD τ) arg12 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlk x0 (decD x1 x2) s2 x4 (gainRow x1 x2 x3 x4 x5)) ∗ owns (c : Thread nD τ) arg9 fullShare (normRow x1 x2 x3 x4) ∗ owns (c : Thread nD τ) arg10 fullShare (setD s0 (i 1).val (decD x1 x2)) ∗ owns (c : Thread nD τ) arg11 fullShare (setG s1 (i 1).val (gainRow x1 x2 x3 x4 x5)) ∗ owns (c : Thread nD τ) arg12 fullShare s2) -∗ K ⟨⟩))
          ⊢ wp frame (wpE (defs₀ (F := F)) Variants.none c none) E (cc0_dora_int4_linear i arg2 harg2 arg3 harg3 arg4 harg4 arg5 harg5 arg6 harg6 arg7 harg7 arg8 harg8 arg9 harg9 arg10 harg10 arg11 harg11 arg12 harg12) K := by
    intro E K
    simp only [cc0_dora_int4_linear_eq_skeleton]; unfold cc0_dora_int4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hs0; obtain rfl := harg11.eq_unread hs1; obtain rfl := harg12.eq_unread hs2
    sl_exec (disch := first | sl_exact hc0 | sl_exact hc1)
    sl_step
    iapply Hk
    isplitl [H0]
    · iexists _; isplitr; swap; · iexact H0
      ipureintro; exact harg2.read_unread x0
    isplitl [H1]
    · iexists _; isplitr; swap; · iexact H1
      ipureintro; exact harg3.read_unread x1
    isplitl [H2]
    · iexists _; isplitr; swap; · iexact H2
      ipureintro; exact harg4.read_unread x2
    isplitl [H3]
    · iexists _; isplitr; swap; · iexact H3
      ipureintro; exact harg5.read_unread x3
    isplitl [H4]
    · iexists _; isplitr; swap; · iexact H4
      ipureintro; exact harg6.read_unread x4
    isplitl [H5]
    · iexists _; isplitr; swap; · iexact H5
      ipureintro; exact harg7.read_unread x5
    isplitl [H6]
    · iexists _; isplitr; swap; · iexact H6
      ipureintro
      refine (read_store_whole arg8 _ _ _).trans ?_
      refine pay4_eq (ld_whole arg2 harg2 x0 _) ?_ ?_ (ld_whole arg6 harg6 x4 _) ?_
      · refine cov_slab arg10 (i 1) x1 x2 _ ?_ _ _ (k0_off14_eq i)
        exact (congrArg₂ List.cons (piece_eq (i 1) x1 x2 11 (by decide) _ _ (k0_off12_eq i) _ ((pay50_eq _ _).trans (congrArg k0_pay47 (grp_eq (g := 11) (ld_codes arg3 harg3 x1 704 _ rfl) (ld_scale arg4 harg4 x2 11 _)))))
          (congrArg₂ List.cons (piece_eq (i 1) x1 x2 10 (by decide) _ _ (k0_off11_eq i) _ (congrArg k0_pay47 (grp_eq (g := 10) (ld_codes arg3 harg3 x1 640 _ rfl) (ld_scale arg4 harg4 x2 10 _))))
          (congrArg₂ List.cons (piece_eq (i 1) x1 x2 9 (by decide) _ _ (k0_off10_eq i) _ ((pay44_eq _ _).trans (congrArg k0_pay47 (grp_eq (g := 9) (ld_codes arg3 harg3 x1 576 _ rfl) (ld_scale arg4 harg4 x2 9 _)))))
          (congrArg₂ List.cons (piece_eq (i 1) x1 x2 8 (by decide) _ _ (k0_off9_eq i) _ ((pay39_eq _ _).trans (congrArg k0_pay47 (grp_eq (g := 8) (ld_codes arg3 harg3 x1 512 _ rfl) (ld_scale arg4 harg4 x2 8 _)))))
          (congrArg₂ List.cons (piece_eq (i 1) x1 x2 7 (by decide) _ _ (k0_off8_eq i) _ ((pay34_eq _ _).trans (congrArg k0_pay47 (grp_eq (g := 7) (ld_codes arg3 harg3 x1 448 _ rfl) (ld_scale arg4 harg4 x2 7 _)))))
          (congrArg₂ List.cons (piece_eq (i 1) x1 x2 6 (by decide) _ _ (k0_off7_eq i) _ ((pay31_eq _ _).trans (congrArg k0_pay47 (grp_eq (g := 6) (ld_codes arg3 harg3 x1 384 _ rfl) (ld_scale arg4 harg4 x2 6 _)))))
          (congrArg₂ List.cons (piece_eq (i 1) x1 x2 5 (by decide) _ _ (k0_off6_eq i) _ ((pay27_eq _ _).trans (congrArg k0_pay47 (grp_eq (g := 5) (ld_codes arg3 harg3 x1 320 _ rfl) (ld_scale arg4 harg4 x2 5 _)))))
          (congrArg₂ List.cons (piece_eq (i 1) x1 x2 4 (by decide) _ _ (k0_off5_eq i) _ ((pay24_eq _ _).trans (congrArg k0_pay47 (grp_eq (g := 4) (ld_codes arg3 harg3 x1 256 _ rfl) (ld_scale arg4 harg4 x2 4 _)))))
          (congrArg₂ List.cons (piece_eq (i 1) x1 x2 3 (by decide) _ _ (k0_off4_eq i) _ ((pay21_eq _ _).trans (congrArg k0_pay47 (grp_eq (g := 3) (ld_codes arg3 harg3 x1 192 _ rfl) (ld_scale arg4 harg4 x2 3 _)))))
          (congrArg₂ List.cons (piece_eq (i 1) x1 x2 2 (by decide) _ _ (k0_off3_eq i) _ ((pay16_eq _ _).trans (congrArg k0_pay47 (grp_eq (g := 2) (ld_codes arg3 harg3 x1 128 _ rfl) (ld_scale arg4 harg4 x2 2 _)))))
          (congrArg₂ List.cons (piece_eq (i 1) x1 x2 1 (by decide) _ _ (k0_off2_eq i) _ ((pay10_eq _ _).trans (congrArg k0_pay47 (grp_eq (g := 1) (ld_codes arg3 harg3 x1 64 _ rfl) (ld_scale arg4 harg4 x2 1 _)))))
          (congrArg₂ List.cons (piece_eq (i 1) x1 x2 0 (by decide) _ _ (k0_off1_eq i) _ ((pay6_eq _ _).trans (congrArg k0_pay47 (grp_eq (g := 0) (ld_codes arg3 harg3 x1 0 _ rfl) (ld_scale arg4 harg4 x2 0 _)))))
          rfl))))))))))))
      · exact ld_whole arg12 harg12 s2 _
      · refine cov_gain arg11 (i 1) _ _ _ _ (k0_off15_eq i) _ (k0_off13_eq i) _ ?_
        exact (pay2_eq _ _ _ _ _).trans (gain_eq (ld_whole arg7 harg7 x5 _)
          (step_eq (g := 11) (step_eq (g := 10) ((pay45_eq _ _ _ _ _).trans (step_eq (g := 9) ((pay40_eq _ _ _ _ _).trans (step_eq (g := 8) ((pay35_eq _ _ _ _ _).trans (step_eq (g := 7) ((pay32_eq _ _ _ _ _ _ _ _ _).trans (step_eq (g := 6) (step_eq (g := 5) ((pay25_eq _ _ _ _).trans (step_eq (g := 4) ((pay22_eq _ _ _ _ _).trans (step_eq (g := 3) ((pay17_eq _ _ _ _ _).trans (step_eq (g := 2) ((pay11_eq _ _ _ _ _).trans (step_eq (g := 1) ((pay7_eq _ _ _ _).trans (step_eq (g := 0) rfl (grp_eq (g := 0) (ld_codes arg3 harg3 x1 0 _ rfl) (ld_scale arg4 harg4 x2 0 _)) (ld_a arg5 harg5 x3 0 _ rfl) (ld_whole arg6 harg6 x4 _))) (grp_eq (g := 1) (ld_codes arg3 harg3 x1 64 _ rfl) (ld_scale arg4 harg4 x2 1 _)) (ld_a arg5 harg5 x3 128 _ rfl) (ld_whole arg6 harg6 x4 _))) (grp_eq (g := 2) (ld_codes arg3 harg3 x1 128 _ rfl) (ld_scale arg4 harg4 x2 2 _)) (ld_a arg5 harg5 x3 256 _ rfl) (ld_whole arg6 harg6 x4 _))) (grp_eq (g := 3) (ld_codes arg3 harg3 x1 192 _ rfl) (ld_scale arg4 harg4 x2 3 _)) (ld_a arg5 harg5 x3 384 _ rfl) (ld_whole arg6 harg6 x4 _))) ((pay23_eq _ _).trans (grp_eq (g := 4) (ld_codes arg3 harg3 x1 256 _ rfl) (ld_scale arg4 harg4 x2 4 _))) (ld_a arg5 harg5 x3 512 _ rfl) (ld_whole arg6 harg6 x4 _))) (grp_eq (g := 5) (ld_codes arg3 harg3 x1 320 _ rfl) (ld_scale arg4 harg4 x2 5 _)) (ld_a arg5 harg5 x3 640 _ rfl) (ld_whole arg6 harg6 x4 _)) (grp_eq (g := 6) (ld_codes arg3 harg3 x1 384 _ rfl) (ld_scale arg4 harg4 x2 6 _)) (ld_a arg5 harg5 x3 768 _ rfl) (ld_whole arg6 harg6 x4 _))) (grp_eq (g := 7) (ld_codes arg3 harg3 x1 448 _ rfl) (ld_scale arg4 harg4 x2 7 _)) (ld_a arg5 harg5 x3 896 _ rfl) (ld_whole arg6 harg6 x4 _))) (grp_eq (g := 8) (ld_codes arg3 harg3 x1 512 _ rfl) (ld_scale arg4 harg4 x2 8 _)) (ld_a arg5 harg5 x3 1024 _ rfl) (ld_whole arg6 harg6 x4 _))) (grp_eq (g := 9) (ld_codes arg3 harg3 x1 576 _ rfl) (ld_scale arg4 harg4 x2 9 _)) (ld_a arg5 harg5 x3 1152 _ rfl) (ld_whole arg6 harg6 x4 _))) (grp_eq (g := 10) (ld_codes arg3 harg3 x1 640 _ rfl) (ld_scale arg4 harg4 x2 10 _)) (ld_a arg5 harg5 x3 1280 _ rfl) (ld_whole arg6 harg6 x4 _)) ((pay49_eq _ _).trans (grp_eq (g := 11) (ld_codes arg3 harg3 x1 704 _ rfl) (ld_scale arg4 harg4 x2 11 _))) (ld_a arg5 harg5 x3 1408 _ rfl) (ld_whole arg6 harg6 x4 _)))
    isplitl [H7]
    · iexists _; isplitr; swap; · iexact H7
      ipureintro
      refine (read_store_whole arg9 _ _ _).trans ?_
      exact (pay1_eq _ _ _ _).trans (congrArg sqrt
        (step_eq (g := 11) (step_eq (g := 10) ((pay45_eq _ _ _ _ _).trans (step_eq (g := 9) ((pay40_eq _ _ _ _ _).trans (step_eq (g := 8) ((pay35_eq _ _ _ _ _).trans (step_eq (g := 7) ((pay32_eq _ _ _ _ _ _ _ _ _).trans (step_eq (g := 6) (step_eq (g := 5) ((pay25_eq _ _ _ _).trans (step_eq (g := 4) ((pay22_eq _ _ _ _ _).trans (step_eq (g := 3) ((pay17_eq _ _ _ _ _).trans (step_eq (g := 2) ((pay11_eq _ _ _ _ _).trans (step_eq (g := 1) ((pay7_eq _ _ _ _).trans (step_eq (g := 0) rfl (grp_eq (g := 0) (ld_codes arg3 harg3 x1 0 _ rfl) (ld_scale arg4 harg4 x2 0 _)) (ld_a arg5 harg5 x3 0 _ rfl) (ld_whole arg6 harg6 x4 _))) (grp_eq (g := 1) (ld_codes arg3 harg3 x1 64 _ rfl) (ld_scale arg4 harg4 x2 1 _)) (ld_a arg5 harg5 x3 128 _ rfl) (ld_whole arg6 harg6 x4 _))) (grp_eq (g := 2) (ld_codes arg3 harg3 x1 128 _ rfl) (ld_scale arg4 harg4 x2 2 _)) (ld_a arg5 harg5 x3 256 _ rfl) (ld_whole arg6 harg6 x4 _))) (grp_eq (g := 3) (ld_codes arg3 harg3 x1 192 _ rfl) (ld_scale arg4 harg4 x2 3 _)) (ld_a arg5 harg5 x3 384 _ rfl) (ld_whole arg6 harg6 x4 _))) ((pay23_eq _ _).trans (grp_eq (g := 4) (ld_codes arg3 harg3 x1 256 _ rfl) (ld_scale arg4 harg4 x2 4 _))) (ld_a arg5 harg5 x3 512 _ rfl) (ld_whole arg6 harg6 x4 _))) (grp_eq (g := 5) (ld_codes arg3 harg3 x1 320 _ rfl) (ld_scale arg4 harg4 x2 5 _)) (ld_a arg5 harg5 x3 640 _ rfl) (ld_whole arg6 harg6 x4 _)) (grp_eq (g := 6) (ld_codes arg3 harg3 x1 384 _ rfl) (ld_scale arg4 harg4 x2 6 _)) (ld_a arg5 harg5 x3 768 _ rfl) (ld_whole arg6 harg6 x4 _))) (grp_eq (g := 7) (ld_codes arg3 harg3 x1 448 _ rfl) (ld_scale arg4 harg4 x2 7 _)) (ld_a arg5 harg5 x3 896 _ rfl) (ld_whole arg6 harg6 x4 _))) (grp_eq (g := 8) (ld_codes arg3 harg3 x1 512 _ rfl) (ld_scale arg4 harg4 x2 8 _)) (ld_a arg5 harg5 x3 1024 _ rfl) (ld_whole arg6 harg6 x4 _))) (grp_eq (g := 9) (ld_codes arg3 harg3 x1 576 _ rfl) (ld_scale arg4 harg4 x2 9 _)) (ld_a arg5 harg5 x3 1152 _ rfl) (ld_whole arg6 harg6 x4 _))) (grp_eq (g := 10) (ld_codes arg3 harg3 x1 640 _ rfl) (ld_scale arg4 harg4 x2 10 _)) (ld_a arg5 harg5 x3 1280 _ rfl) (ld_whole arg6 harg6 x4 _)) ((pay49_eq _ _).trans (grp_eq (g := 11) (ld_codes arg3 harg3 x1 704 _ rfl) (ld_scale arg4 harg4 x2 11 _))) (ld_a arg5 harg5 x3 1408 _ rfl) (ld_whole arg6 harg6 x4 _)))
    isplitl [HS0]
    · iexists _; isplitr; swap; · iexact HS0
      ipureintro
      refine Eq.trans (congrArg (fun L => arg10.view.read (Elt F) (arg10.view.writes (Elt F) (harg10.unread s0) L)) ?_) ((read_slab arg10 _ (i 1) x1 x2).trans (by rw [harg10.read_unread]))
      exact (congrArg₂ List.cons (piece_eq (i 1) x1 x2 11 (by decide) _ _ (k0_off12_eq i) _ ((pay50_eq _ _).trans (congrArg k0_pay47 (grp_eq (g := 11) (ld_codes arg3 harg3 x1 704 _ rfl) (ld_scale arg4 harg4 x2 11 _)))))
        (congrArg₂ List.cons (piece_eq (i 1) x1 x2 10 (by decide) _ _ (k0_off11_eq i) _ (congrArg k0_pay47 (grp_eq (g := 10) (ld_codes arg3 harg3 x1 640 _ rfl) (ld_scale arg4 harg4 x2 10 _))))
        (congrArg₂ List.cons (piece_eq (i 1) x1 x2 9 (by decide) _ _ (k0_off10_eq i) _ ((pay44_eq _ _).trans (congrArg k0_pay47 (grp_eq (g := 9) (ld_codes arg3 harg3 x1 576 _ rfl) (ld_scale arg4 harg4 x2 9 _)))))
        (congrArg₂ List.cons (piece_eq (i 1) x1 x2 8 (by decide) _ _ (k0_off9_eq i) _ ((pay39_eq _ _).trans (congrArg k0_pay47 (grp_eq (g := 8) (ld_codes arg3 harg3 x1 512 _ rfl) (ld_scale arg4 harg4 x2 8 _)))))
        (congrArg₂ List.cons (piece_eq (i 1) x1 x2 7 (by decide) _ _ (k0_off8_eq i) _ ((pay34_eq _ _).trans (congrArg k0_pay47 (grp_eq (g := 7) (ld_codes arg3 harg3 x1 448 _ rfl) (ld_scale arg4 harg4 x2 7 _)))))
        (congrArg₂ List.cons (piece_eq (i 1) x1 x2 6 (by decide) _ _ (k0_off7_eq i) _ ((pay31_eq _ _).trans (congrArg k0_pay47 (grp_eq (g := 6) (ld_codes arg3 harg3 x1 384 _ rfl) (ld_scale arg4 harg4 x2 6 _)))))
        (congrArg₂ List.cons (piece_eq (i 1) x1 x2 5 (by decide) _ _ (k0_off6_eq i) _ ((pay27_eq _ _).trans (congrArg k0_pay47 (grp_eq (g := 5) (ld_codes arg3 harg3 x1 320 _ rfl) (ld_scale arg4 harg4 x2 5 _)))))
        (congrArg₂ List.cons (piece_eq (i 1) x1 x2 4 (by decide) _ _ (k0_off5_eq i) _ ((pay24_eq _ _).trans (congrArg k0_pay47 (grp_eq (g := 4) (ld_codes arg3 harg3 x1 256 _ rfl) (ld_scale arg4 harg4 x2 4 _)))))
        (congrArg₂ List.cons (piece_eq (i 1) x1 x2 3 (by decide) _ _ (k0_off4_eq i) _ ((pay21_eq _ _).trans (congrArg k0_pay47 (grp_eq (g := 3) (ld_codes arg3 harg3 x1 192 _ rfl) (ld_scale arg4 harg4 x2 3 _)))))
        (congrArg₂ List.cons (piece_eq (i 1) x1 x2 2 (by decide) _ _ (k0_off3_eq i) _ ((pay16_eq _ _).trans (congrArg k0_pay47 (grp_eq (g := 2) (ld_codes arg3 harg3 x1 128 _ rfl) (ld_scale arg4 harg4 x2 2 _)))))
        (congrArg₂ List.cons (piece_eq (i 1) x1 x2 1 (by decide) _ _ (k0_off2_eq i) _ ((pay10_eq _ _).trans (congrArg k0_pay47 (grp_eq (g := 1) (ld_codes arg3 harg3 x1 64 _ rfl) (ld_scale arg4 harg4 x2 1 _)))))
        (congrArg₂ List.cons (piece_eq (i 1) x1 x2 0 (by decide) _ _ (k0_off1_eq i) _ ((pay6_eq _ _).trans (congrArg k0_pay47 (grp_eq (g := 0) (ld_codes arg3 harg3 x1 0 _ rfl) (ld_scale arg4 harg4 x2 0 _)))))
        rfl))))))))))))
    isplitl [HS1]
    · iexists _; isplitr; swap; · iexact HS1
      ipureintro
      refine (read_gain arg11 _ (i 1) _ _ (k0_off13_eq i) (gainRow x1 x2 x3 x4 x5) _ ?_).trans (by rw [harg11.read_unread])
      exact (pay2_eq _ _ _ _ _).trans (gain_eq (ld_whole arg7 harg7 x5 _)
        (step_eq (g := 11) (step_eq (g := 10) ((pay45_eq _ _ _ _ _).trans (step_eq (g := 9) ((pay40_eq _ _ _ _ _).trans (step_eq (g := 8) ((pay35_eq _ _ _ _ _).trans (step_eq (g := 7) ((pay32_eq _ _ _ _ _ _ _ _ _).trans (step_eq (g := 6) (step_eq (g := 5) ((pay25_eq _ _ _ _).trans (step_eq (g := 4) ((pay22_eq _ _ _ _ _).trans (step_eq (g := 3) ((pay17_eq _ _ _ _ _).trans (step_eq (g := 2) ((pay11_eq _ _ _ _ _).trans (step_eq (g := 1) ((pay7_eq _ _ _ _).trans (step_eq (g := 0) rfl (grp_eq (g := 0) (ld_codes arg3 harg3 x1 0 _ rfl) (ld_scale arg4 harg4 x2 0 _)) (ld_a arg5 harg5 x3 0 _ rfl) (ld_whole arg6 harg6 x4 _))) (grp_eq (g := 1) (ld_codes arg3 harg3 x1 64 _ rfl) (ld_scale arg4 harg4 x2 1 _)) (ld_a arg5 harg5 x3 128 _ rfl) (ld_whole arg6 harg6 x4 _))) (grp_eq (g := 2) (ld_codes arg3 harg3 x1 128 _ rfl) (ld_scale arg4 harg4 x2 2 _)) (ld_a arg5 harg5 x3 256 _ rfl) (ld_whole arg6 harg6 x4 _))) (grp_eq (g := 3) (ld_codes arg3 harg3 x1 192 _ rfl) (ld_scale arg4 harg4 x2 3 _)) (ld_a arg5 harg5 x3 384 _ rfl) (ld_whole arg6 harg6 x4 _))) ((pay23_eq _ _).trans (grp_eq (g := 4) (ld_codes arg3 harg3 x1 256 _ rfl) (ld_scale arg4 harg4 x2 4 _))) (ld_a arg5 harg5 x3 512 _ rfl) (ld_whole arg6 harg6 x4 _))) (grp_eq (g := 5) (ld_codes arg3 harg3 x1 320 _ rfl) (ld_scale arg4 harg4 x2 5 _)) (ld_a arg5 harg5 x3 640 _ rfl) (ld_whole arg6 harg6 x4 _)) (grp_eq (g := 6) (ld_codes arg3 harg3 x1 384 _ rfl) (ld_scale arg4 harg4 x2 6 _)) (ld_a arg5 harg5 x3 768 _ rfl) (ld_whole arg6 harg6 x4 _))) (grp_eq (g := 7) (ld_codes arg3 harg3 x1 448 _ rfl) (ld_scale arg4 harg4 x2 7 _)) (ld_a arg5 harg5 x3 896 _ rfl) (ld_whole arg6 harg6 x4 _))) (grp_eq (g := 8) (ld_codes arg3 harg3 x1 512 _ rfl) (ld_scale arg4 harg4 x2 8 _)) (ld_a arg5 harg5 x3 1024 _ rfl) (ld_whole arg6 harg6 x4 _))) (grp_eq (g := 9) (ld_codes arg3 harg3 x1 576 _ rfl) (ld_scale arg4 harg4 x2 9 _)) (ld_a arg5 harg5 x3 1152 _ rfl) (ld_whole arg6 harg6 x4 _))) (grp_eq (g := 10) (ld_codes arg3 harg3 x1 640 _ rfl) (ld_scale arg4 harg4 x2 10 _)) (ld_a arg5 harg5 x3 1280 _ rfl) (ld_whole arg6 harg6 x4 _)) ((pay49_eq _ _).trans (grp_eq (g := 11) (ld_codes arg3 harg3 x1 704 _ rfl) (ld_scale arg4 harg4 x2 11 _))) (ld_a arg5 harg5 x3 1408 _ rfl) (ld_whole arg6 harg6 x4 _)))
    iexists _; isplitr; swap; · iexact HS2
    ipureintro
    exact harg12.read_unread s2

end Cert.KernelIdeal.Val
end
-- ==== Proof.RunC.lean ====
module

public import proofs.«01_k».proof.Proof.Blocks
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 2000000 in
/-- At the first point of a later row of blocks the body computes the low-rank product of its rows and uses the decoded column block and gains kept since the first row. -/
theorem run_C (c : Dev nD) (i : grid0.Coords) (arg2 : Memref sig .tc .vmem S1024x1536 .bf16) (harg2 : arg2.IsWhole) (arg3 : Memref sig .tc .vmem S768x1280 .i8) (harg3 : arg3.IsWhole) (arg4 : Memref sig .tc .vmem S12x1280 .bf16) (harg4 : arg4.IsWhole) (arg5 : Memref sig .tc .vmem S1536x64 .bf16) (harg5 : arg5.IsWhole) (arg6 : Memref sig .tc .vmem S64x1280 .bf16) (harg6 : arg6.IsWhole) (arg7 : Memref sig .tc .vmem S1x1280 .f32) (harg7 : arg7.IsWhole) (arg8 : Memref sig .tc .vmem S1024x1280 .bf16) (harg8 : arg8.IsWhole) (arg9 : Memref sig .tc .vmem S1x1280 .f32) (harg9 : arg9.IsWhole) (arg10 : Memref sig .tc .vmem S7x1536x1280 .bf16) (harg10 : arg10.IsWhole) (arg11 : Memref sig .tc .vmem S7x1x1280 .f32) (harg11 : arg11.IsWhole) (arg12 : Memref sig .tc .vmem S1024x64 .bf16) (harg12 : arg12.IsWhole) (hc0 : ¬ cond0_0 i) (hc1 : cond0_1 i)
    (x0 : Vec F S1024x1536 .bf16) (x1 : Vec F S768x1280 .i8) (x2 : Vec F S12x1280 .bf16) (x3 : Vec F S1536x64 .bf16) (x4 : Vec F S64x1280 .bf16) (x5 : Vec F S1x1280 .f32) (x7 : Vec F S1x1280 .f32) (s0 : Vec F S7x1536x1280 .bf16) (s1 : Vec F S7x1x1280 .f32) (s2 : Vec F S1024x64 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare s0 ∗ owns (c : Thread nD τ) arg11 fullShare s1 ∗ owns (c : Thread nD τ) arg12 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlk x0 (getD s0 (i 1)) (k0_pay3 x0 x3) x4 (getG s1 (i 1))) ∗ owns (c : Thread nD τ) arg9 fullShare x7 ∗ owns (c : Thread nD τ) arg10 fullShare s0 ∗ owns (c : Thread nD τ) arg11 fullShare s1 ∗ owns (c : Thread nD τ) arg12 fullShare (k0_pay3 x0 x3)) -∗ K ⟨⟩))
          ⊢ wp frame (wpE (defs₀ (F := F)) Variants.none c none) E (cc0_dora_int4_linear i arg2 harg2 arg3 harg3 arg4 harg4 arg5 harg5 arg6 harg6 arg7 harg7 arg8 harg8 arg9 harg9 arg10 harg10 arg11 harg11 arg12 harg12) K := by
    intro E K
    simp only [cc0_dora_int4_linear_eq_skeleton]; unfold cc0_dora_int4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hs0; obtain rfl := harg11.eq_unread hs1; obtain rfl := harg12.eq_unread hs2
    sl_exec (disch := first | sl_exact hc0 | sl_exact hc1)
    sl_step
    iapply Hk
    isplitl [H0]
    · iexists _; isplitr; swap; · iexact H0
      ipureintro; exact harg2.read_unread x0
    isplitl [H1]
    · iexists _; isplitr; swap; · iexact H1
      ipureintro; exact harg3.read_unread x1
    isplitl [H2]
    · iexists _; isplitr; swap; · iexact H2
      ipureintro; exact harg4.read_unread x2
    isplitl [H3]
    · iexists _; isplitr; swap; · iexact H3
      ipureintro; exact harg5.read_unread x3
    isplitl [H4]
    · iexists _; isplitr; swap; · iexact H4
      ipureintro; exact harg6.read_unread x4
    isplitl [H5]
    · iexists _; isplitr; swap; · iexact H5
      ipureintro; exact harg7.read_unread x5
    isplitl [H6]
    · iexists _; isplitr; swap; · iexact H6
      ipureintro
      refine (read_store_whole arg8 _ _ _).trans ?_
      refine pay4_eq (ld_whole arg2 harg2 x0 _) ?_ ?_ (ld_whole arg6 harg6 x4 _) ?_
      · exact (ld_slab arg10 _ (i 1) _ _ (k0_off14_eq i)).trans (by rw [harg10.read_unread]; rfl)
      · exact cov_whole arg12 _ _ _ _ (congrArg₂ k0_pay3 (ld_whole arg2 harg2 x0 _) (ld_whole arg5 harg5 x3 _))
      · exact (ld_gain arg11 _ (i 1) _ _ (k0_off15_eq i)).trans (by rw [harg11.read_unread]; rfl)
    isplitl [H7]
    · iexists _; isplitr; swap; · iexact H7
      ipureintro
      exact harg9.read_unread x7
    isplitl [HS0]
    · iexists _; isplitr; swap; · iexact HS0
      ipureintro
      exact harg10.read_unread s0
    isplitl [HS1]
    · iexists _; isplitr; swap; · iexact HS1
      ipureintro
      exact harg11.read_unread s1
    iexists _; isplitr; swap; · iexact HS2
    ipureintro
    refine (read_store_whole arg12 _ _ _).trans ?_
    exact congrArg₂ k0_pay3 (ld_whole arg2 harg2 x0 _) (ld_whole arg5 harg5 x3 _)

end Cert.KernelIdeal.Val
end
-- ==== Proof.RunD.lean ====
module

public import proofs.«01_k».proof.Proof.Blocks
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 2000000 in
/-- At the other points of a later row of blocks the body uses the decoded column block, the gains and the low-rank product it kept. -/
theorem run_D (c : Dev nD) (i : grid0.Coords) (arg2 : Memref sig .tc .vmem S1024x1536 .bf16) (harg2 : arg2.IsWhole) (arg3 : Memref sig .tc .vmem S768x1280 .i8) (harg3 : arg3.IsWhole) (arg4 : Memref sig .tc .vmem S12x1280 .bf16) (harg4 : arg4.IsWhole) (arg5 : Memref sig .tc .vmem S1536x64 .bf16) (harg5 : arg5.IsWhole) (arg6 : Memref sig .tc .vmem S64x1280 .bf16) (harg6 : arg6.IsWhole) (arg7 : Memref sig .tc .vmem S1x1280 .f32) (harg7 : arg7.IsWhole) (arg8 : Memref sig .tc .vmem S1024x1280 .bf16) (harg8 : arg8.IsWhole) (arg9 : Memref sig .tc .vmem S1x1280 .f32) (harg9 : arg9.IsWhole) (arg10 : Memref sig .tc .vmem S7x1536x1280 .bf16) (harg10 : arg10.IsWhole) (arg11 : Memref sig .tc .vmem S7x1x1280 .f32) (harg11 : arg11.IsWhole) (arg12 : Memref sig .tc .vmem S1024x64 .bf16) (harg12 : arg12.IsWhole) (hc0 : ¬ cond0_0 i) (hc1 : ¬ cond0_1 i)
    (x0 : Vec F S1024x1536 .bf16) (x1 : Vec F S768x1280 .i8) (x2 : Vec F S12x1280 .bf16) (x3 : Vec F S1536x64 .bf16) (x4 : Vec F S64x1280 .bf16) (x5 : Vec F S1x1280 .f32) (x7 : Vec F S1x1280 .f32) (s0 : Vec F S7x1536x1280 .bf16) (s1 : Vec F S7x1x1280 .f32) (s2 : Vec F S1024x64 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare s0 ∗ owns (c : Thread nD τ) arg11 fullShare s1 ∗ owns (c : Thread nD τ) arg12 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlk x0 (getD s0 (i 1)) s2 x4 (getG s1 (i 1))) ∗ owns (c : Thread nD τ) arg9 fullShare x7 ∗ owns (c : Thread nD τ) arg10 fullShare s0 ∗ owns (c : Thread nD τ) arg11 fullShare s1 ∗ owns (c : Thread nD τ) arg12 fullShare s2) -∗ K ⟨⟩))
          ⊢ wp frame (wpE (defs₀ (F := F)) Variants.none c none) E (cc0_dora_int4_linear i arg2 harg2 arg3 harg3 arg4 harg4 arg5 harg5 arg6 harg6 arg7 harg7 arg8 harg8 arg9 harg9 arg10 harg10 arg11 harg11 arg12 harg12) K := by
    intro E K
    simp only [cc0_dora_int4_linear_eq_skeleton]; unfold cc0_dora_int4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hs0; obtain rfl := harg11.eq_unread hs1; obtain rfl := harg12.eq_unread hs2
    sl_exec (disch := first | sl_exact hc0 | sl_exact hc1)
    sl_step
    iapply Hk
    isplitl [H0]
    · iexists _; isplitr; swap; · iexact H0
      ipureintro; exact harg2.read_unread x0
    isplitl [H1]
    · iexists _; isplitr; swap; · iexact H1
      ipureintro; exact harg3.read_unread x1
    isplitl [H2]
    · iexists _; isplitr; swap; · iexact H2
      ipureintro; exact harg4.read_unread x2
    isplitl [H3]
    · iexists _; isplitr; swap; · iexact H3
      ipureintro; exact harg5.read_unread x3
    isplitl [H4]
    · iexists _; isplitr; swap; · iexact H4
      ipureintro; exact harg6.read_unread x4
    isplitl [H5]
    · iexists _; isplitr; swap; · iexact H5
      ipureintro; exact harg7.read_unread x5
    isplitl [H6]
    · iexists _; isplitr; swap; · iexact H6
      ipureintro
      refine (read_store_whole arg8 _ _ _).trans ?_
      refine pay4_eq (ld_whole arg2 harg2 x0 _) ?_ ?_ (ld_whole arg6 harg6 x4 _) ?_
      · exact (ld_slab arg10 _ (i 1) _ _ (k0_off14_eq i)).trans (by rw [harg10.read_unread]; rfl)
      · exact ld_whole arg12 harg12 s2 _
      · exact (ld_gain arg11 _ (i 1) _ _ (k0_off15_eq i)).trans (by rw [harg11.read_unread]; rfl)
    isplitl [H7]
    · iexists _; isplitr; swap; · iexact H7
      ipureintro
      exact harg9.read_unread x7
    isplitl [HS0]
    · iexists _; isplitr; swap; · iexact HS0
      ipureintro
      exact harg10.read_unread s0
    isplitl [HS1]
    · iexists _; isplitr; swap; · iexact HS1
      ipureintro
      exact harg11.read_unread s1
    iexists _; isplitr; swap; · iexact HS2
    ipureintro
    exact harg12.read_unread s2

end Cert.KernelIdeal.Val
end
-- ==== Proof.Launch.lean ====
/- The pipeline's proof data with every value named, the body obligation over the four cases, and the launch. -/
module

public import proofs.«01_k».proof.Proof.RunA
public import proofs.«01_k».proof.Proof.RunB
public import proofs.«01_k».proof.Proof.RunC
public import proofs.«01_k».proof.Proof.RunD
public import Idealize.ShloMosaic.Lib.Claim
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers and the scratch hold -/

/-- Point number `n` of the grid (taken modulo the grid's size, so that any number names a point). -/
def pt (n : ℕ) : Fin cfg0.N := ⟨n % 112, by rw [show cfg0.N = 112 from N_0]; exact Nat.mod_lt _ (by decide)⟩

/-- The grid point built from a grid point’s number is that point. -/
theorem pt_val (t : Fin cfg0.N) : pt t.val = t := by
  have hN : t.val < 112 := lt_of_lt_of_eq t.isLt (show cfg0.N = 112 from N_0)
  exact Fin.ext (Nat.mod_eq_of_lt hN)

/-- The decoded weight block of column block `j`. -/
def colD (c : Dev nD) (j : ℕ) : Vec F S1536x1280 .bf16 :=
  decD (iblk m c 1 (pt j)) (iblk m c 2 (pt j))
/-- The column norms of column block `j`. -/
def colN (c : Dev nD) (j : ℕ) : Vec F S1x1280 .f32 :=
  normRow (iblk m c 1 (pt j)) (iblk m c 2 (pt j)) (iblk m c 3 (pt j)) (iblk m c 4 (pt j))
/-- The column gains (magnitude over norm) of column block `j`. -/
def colG (c : Dev nD) (j : ℕ) : Vec F S1x1280 .f32 :=
  gainRow (iblk m c 1 (pt j)) (iblk m c 2 (pt j)) (iblk m c 3 (pt j)) (iblk m c 4 (pt j)) (iblk m c 5 (pt j))
/-- The low-rank product of the row block that point `n` opens. -/
def rowXA (c : Dev nD) (n : ℕ) : Vec F S1024x64 .bf16 :=
  k0_pay3 (iblk m c 0 (pt n)) (iblk m c 3 (pt n))

/-- The pipeline's output block at a point. -/
def outAt (c : Dev nD) (t : Fin cfg0.N) : Vec F S1024x1280 .bf16 :=
  outBlk (iblk m c 0 t) (colD m c (t.val % 7)) (rowXA m c (7 * (t.val / 7))) (iblk m c 4 t) (colG m c (t.val % 7))

/-- What the three scratch buffers hold before point `k`: the decoded blocks and the gains of every column block met so
    far, and inside a row of blocks the row's low-rank product. -/
def Inv (c : Dev nD) (k : ℕ) (s0 : Vec F S7x1536x1280 .bf16) (s1 : Vec F S7x1x1280 .f32) (s2 : Vec F S1024x64 .bf16) : Prop :=
  (∀ j : Fin 7, j.val < k → getD s0 j = colD m c j.val ∧ getG s1 j = colG m c j.val)
    ∧ (k % 7 ≠ 0 → s2 = rowXA m c (7 * (k / 7)))

/-- The second coordinate of a grid point is its number modulo seven. -/
theorem coord1 (t : Fin cfg0.N) : (grid0.coords t 1).val = t.val % 7 := by
  have h : (grid0.coords t 1).val = t.val / 1 % 7 := Pipeline.Grid.coords_val t 1 (by decide) rfl
  rw [h, Nat.div_one]

/-- A point of the first row of blocks adds its own column block to the scratch. -/
theorem inv_first (c : Dev nD) (t : Fin cfg0.N) (h : t.val < 7) (s0 : Vec F S7x1536x1280 .bf16) (s1 : Vec F S7x1x1280 .f32)
    (s2 xa : Vec F S1024x64 .bf16) (hI : Inv m c t.val s0 s1 s2) (hxa : xa = rowXA m c (7 * (t.val / 7))) :
    Inv m c (t.val + 1) (setD s0 (grid0.coords t 1).val (decD (iblk m c 1 t) (iblk m c 2 t)))
      (setG s1 (grid0.coords t 1).val (gainRow (iblk m c 1 t) (iblk m c 2 t) (iblk m c 3 t) (iblk m c 4 t) (iblk m c 5 t))) xa := by
  have hc : (grid0.coords t 1).val = t.val := by rw [coord1, Nat.mod_eq_of_lt h]
  refine ⟨fun j hj => ?_, fun hk => ?_⟩
  · by_cases hjt : j.val = t.val
    · have e : (grid0.coords t 1).val = j.val := by rw [hc, hjt]
      rw [e, getD_setD, getG_setG]
      unfold colD colG
      rw [hjt, pt_val]
      exact ⟨rfl, rfl⟩
    · rw [hc, getD_setD_ne s0 _ j hjt, getG_setG_ne s1 _ j hjt]
      exact hI.1 j (by omega)
  · rw [hxa]; congr 1; omega

/-- A later point leaves the decoded blocks and the gains as they are. -/
theorem inv_later (c : Dev nD) (t : Fin cfg0.N) (h : ¬ t.val < 7) (s0 : Vec F S7x1536x1280 .bf16) (s1 : Vec F S7x1x1280 .f32)
    (s2 xa : Vec F S1024x64 .bf16) (hI : Inv m c t.val s0 s1 s2) (hxa : xa = rowXA m c (7 * (t.val / 7))) :
    Inv m c (t.val + 1) s0 s1 xa := by
  refine ⟨fun j hj => hI.1 j (by have := j.isLt; omega), fun hk => ?_⟩
  rw [hxa]; congr 1; omega

/-- The low-rank product a point opening a row of blocks computes. -/
theorem xa_open (c : Dev nD) (t : Fin cfg0.N) (h : t.val % 7 = 0) :
    k0_pay3 (iblk m c 0 t) (iblk m c 3 t) = rowXA m c (7 * (t.val / 7)) := by
  unfold rowXA
  rw [show 7 * (t.val / 7) = t.val by omega, pt_val]

/-- The low-rank product a point inside a row of blocks finds. -/
theorem xa_kept (c : Dev nD) (t : Fin cfg0.N) (h : ¬ t.val % 7 = 0) (s0 : Vec F S7x1536x1280 .bf16) (s1 : Vec F S7x1x1280 .f32)
    (s2 : Vec F S1024x64 .bf16) (hI : Inv m c t.val s0 s1 s2) : s2 = rowXA m c (7 * (t.val / 7)) := hI.2 h

/-- The output block at a point of the first row of blocks. -/
theorem out_first (c : Dev nD) (t : Fin cfg0.N) (h : t.val < 7) (xa : Vec F S1024x64 .bf16) (hxa : xa = rowXA m c (7 * (t.val / 7))) :
    outBlk (iblk m c 0 t) (decD (iblk m c 1 t) (iblk m c 2 t)) xa (iblk m c 4 t)
      (gainRow (iblk m c 1 t) (iblk m c 2 t) (iblk m c 3 t) (iblk m c 4 t) (iblk m c 5 t)) = outAt m c t := by
  unfold outAt colD colG
  rw [hxa, Nat.mod_eq_of_lt h, pt_val]

/-- The output block at a later point. -/
theorem out_later (c : Dev nD) (t : Fin cfg0.N) (h : ¬ t.val < 7) (s0 : Vec F S7x1536x1280 .bf16) (s1 : Vec F S7x1x1280 .f32)
    (s2 xa : Vec F S1024x64 .bf16) (hI : Inv m c t.val s0 s1 s2) (hxa : xa = rowXA m c (7 * (t.val / 7))) :
    outBlk (iblk m c 0 t) (getD s0 (grid0.coords t 1)) xa (iblk m c 4 t) (getG s1 (grid0.coords t 1)) = outAt m c t := by
  have e := hI.1 (grid0.coords t 1) (by rw [coord1]; omega)
  rw [e.1, e.2, coord1, hxa]; rfl

/-! ## The pipeline's proof data -/

/-- The body's invariant: the scratch buffers at contents that `Inv` describes, and the generator register. -/
def PhiT (c : Dev nD) (k : ℕ) : sProp 𝕄 :=
  iprop((∃ s0, ∃ s1, ∃ s2, owns (c : Thread nD τ) scM0_0 fullShare s0 ∗ owns (c : Thread nD τ) scM0_1 fullShare s1
      ∗ owns (c : Thread nD τ) scM0_2 fullShare s2 ∗ ⌜Inv m c k s0 s1 s2⌝) ∗ (∃ r, prngReg c r))

/-- The proof data of the one pipeline on core `c`: the arrays as the region finds them; after the body each input's buffer
    at its block, the output's at `outAt`, the norms' at the norms of the column block last met. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => colN m c (min t.val 6)
  Φ t := PhiT m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What a grid point leaves in the buffer of the activations. -/
theorem after0_0 (c : Dev nD) (t : Fin cfg0.N) : (dats m 0 c).after 0 t = iblk m c 0 t := by dsimp only [dats]
/-- What a grid point leaves in the buffer of the packed codes. -/
theorem after0_1 (c : Dev nD) (t : Fin cfg0.N) : (dats m 0 c).after 1 t = iblk m c 1 t := by dsimp only [dats]
/-- What a grid point leaves in the buffer of the scales. -/
theorem after0_2 (c : Dev nD) (t : Fin cfg0.N) : (dats m 0 c).after 2 t = iblk m c 2 t := by dsimp only [dats]
/-- What a grid point leaves in the buffer of the first factor. -/
theorem after0_3 (c : Dev nD) (t : Fin cfg0.N) : (dats m 0 c).after 3 t = iblk m c 3 t := by dsimp only [dats]
/-- What a grid point leaves in the buffer of the second factor. -/
theorem after0_4 (c : Dev nD) (t : Fin cfg0.N) : (dats m 0 c).after 4 t = iblk m c 4 t := by dsimp only [dats]
/-- What a grid point leaves in the buffer of the magnitudes. -/
theorem after0_5 (c : Dev nD) (t : Fin cfg0.N) : (dats m 0 c).after 5 t = iblk m c 5 t := by dsimp only [dats]
/-- What a grid point leaves in the buffer of the output. -/
theorem after0_6 (c : Dev nD) (t : Fin cfg0.N) : (dats m 0 c).after 6 t = outAt m c t := by dsimp only [dats]
/-- What a grid point leaves in the buffer of the norms. -/
theorem after0_7 (c : Dev nD) (t : Fin cfg0.N) : (dats m 0 c).after 7 t = colN m c (min t.val 6) := by dsimp only [dats]

/-! Each input's current staging buffer holds its block at every point. -/

/-- What a grid point finds in the buffer of the activations. -/
theorem before0_0 (c : Dev nD) (t : Fin cfg0.N) (d) : (dats m 0 c).before 0 t d = iblk m c 0 t :=
  before0_0_of m (dats m 0 c) (A_eq m c 0) (after0_0 m c) t d
/-- What a grid point finds in the buffer of the packed codes. -/
theorem before0_1 (c : Dev nD) (t : Fin cfg0.N) (d) : (dats m 0 c).before 1 t d = iblk m c 1 t :=
  before0_1_of m (dats m 0 c) (A_eq m c 1) (after0_1 m c) t d
/-- What a grid point finds in the buffer of the scales. -/
theorem before0_2 (c : Dev nD) (t : Fin cfg0.N) (d) : (dats m 0 c).before 2 t d = iblk m c 2 t :=
  before0_2_of m (dats m 0 c) (A_eq m c 2) (after0_2 m c) t d
/-- What a grid point finds in the buffer of the first factor. -/
theorem before0_3 (c : Dev nD) (t : Fin cfg0.N) (d) : (dats m 0 c).before 3 t d = iblk m c 3 t :=
  before0_3_of m (dats m 0 c) (A_eq m c 3) (after0_3 m c) t d
/-- What a grid point finds in the buffer of the second factor. -/
theorem before0_4 (c : Dev nD) (t : Fin cfg0.N) (d) : (dats m 0 c).before 4 t d = iblk m c 4 t :=
  before0_4_of m (dats m 0 c) (A_eq m c 4) (after0_4 m c) t d
/-- What a grid point finds in the buffer of the magnitudes. -/
theorem before0_5 (c : Dev nD) (t : Fin cfg0.N) (d) : (dats m 0 c).before 5 t d = iblk m c 5 t :=
  before0_5_of m (dats m 0 c) (A_eq m c 5) (after0_5 m c) t d

/-- The norms' window is written back at the first six points and at the last one. -/
theorem flush0_7 : ∀ t : Fin cfg0.N, (cfg0.win 7).flush t = decide (t.val < 6 ∨ t.val = 111) :=
  (by decide +kernel : ∀ t : Fin grid0.N, win0_7.flush t = decide (t.val < 6 ∨ t.val = 111))

/-- The norms' window is idle exactly after the first row of blocks, where the body stores no norms. -/
theorem idle0_7 (t : Fin cfg0.N) : cfg0.idle 7 (grid0.coords t) = decide (¬ t.val < 7) := by
  show (!(k0_cond1 (grid0.coords t) == 1#1)) = decide (¬ t.val < 7)
  by_cases h : t.val < 7
  · have := (hcond0_0 t).mpr h
    simp only [cond0_0] at this
    rw [this]; simp [h]
  · have := fun e => h ((hcond0_0 t).mp e)
    simp only [cond0_0] at this
    simpa [h] using this

/-- At a point after the first row of blocks the norms' staging buffer still holds what the last point of that row left in it. -/
theorem before0_7 (c : Dev nD) (d) : ∀ n (t : Fin cfg0.N), t.val = n + 7 → (dats m 0 c).before 7 t d = colN m c 6
  | n, t, h => by
    have hN : t.val < 112 := lt_of_lt_of_eq t.isLt (show cfg0.N = 112 from N_0)
    rw [(dats m 0 c).before_of_pos 7 t (by omega) ((cfg0.win 7).fetch_out rfl t), flush0_7,
      if_neg (by simp only [decide_eq_true_eq]; omega)]
    unfold Dat.left
    rw [idle0_7]
    match n with
    | 0 =>
      rw [show decide (¬ (⟨t.val - 1, Nat.lt_of_le_of_lt (Nat.sub_le _ _) t.isLt⟩ : Fin cfg0.N).val < 7) = false by
        simp only [decide_eq_false_iff_not]; omega]
      dsimp only
      unfold Dat.kept
      rw [Pipeline.fill_of_clip_none 7 _ (fun _ => rfl) d ((dats m 0 c).after 7 _), Window.fill_cut, after0_7]
      congr 1
      show min (t.val - 1) 6 = 6
      omega
    | k + 1 =>
      rw [show decide (¬ (⟨t.val - 1, Nat.lt_of_le_of_lt (Nat.sub_le _ _) t.isLt⟩ : Fin cfg0.N).val < 7) = true by
        simp only [decide_eq_true_eq]; omega]
      dsimp only
      exact before0_7 c d k _ (by show t.val - 1 = k + 7; omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body leaves the buffer of the activations at its stated contents. -/
theorem leaves0_0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after0_0]
/-- The body leaves the buffer of the packed codes at its stated contents. -/
theorem leaves0_1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after0_1]
/-- The body leaves the buffer of the scales at its stated contents. -/
theorem leaves0_2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after0_2]
/-- The body leaves the buffer of the first factor at its stated contents. -/
theorem leaves0_3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after0_3]
/-- The body leaves the buffer of the second factor at its stated contents. -/
theorem leaves0_4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after0_4]
/-- The body leaves the buffer of the magnitudes at its stated contents. -/
theorem leaves0_5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after0_5]
/-- The body leaves the buffer of the output at its stated contents. -/
theorem leaves0_6 (c : Dev nD) (t : Fin cfg0.N) :
    (dats m 0 c).leavesExact 6 t = owns (c : Thread nD τ) (ms0_6 t) fullShare (outAt m c t) := by
  unfold Dat.leavesExact; rw [show cfg0.idle 6 (grid0.coords t) = false from rfl, after0_6]

/-- The norms' buffer at the norms of the column block last met is what the body obligation asks of window 7. -/
theorem leaves0_7 (c : Dev nD) (t : Fin cfg0.N) :
    owns (c : Thread nD τ) (ms0_7 t) fullShare (colN m c (min t.val 6)) ⊢ ((dats m 0 c).leavesExact 7 t : sProp 𝕄) := by
  unfold Dat.leavesExact; rw [idle0_7]
  by_cases h : t.val < 7
  · rw [show decide (¬ t.val < 7) = false by simp [h], after0_7]
  · rw [show decide (¬ t.val < 7) = true by simp [h]]
    dsimp only
    split
    · iintro H
      iexists colN m c 6
      rw [before0_7 m c _ (t.val - 7) t (by omega), Nat.min_eq_right (by omega)]
      iexact H
    · rw [after0_7]

set_option maxHeartbeats 3200000 in
/-- The body at any point: the case's run applies, the invariant hands the scratch over and takes it back extended. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5, leaves0_6]
  rw [show (dats m 0 c).owesAt () t.succ = (dats m 0 c).owesAt () t.castSucc from rfl,
    show (dats m 0 c).Φ t.castSucc = PhiT m c t.val from rfl, show (dats m 0 c).Φ t.succ = PhiT m c (t.val + 1) from rfl]
  unfold PhiT
  have hN : t.val < 112 := lt_of_lt_of_eq t.isLt (show cfg0.N = 112 from N_0)
  iintro ⟨⟨⟨%s0, %s1, %s2, HS0, HS1, HS2, %hI⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val < 7
  · have hn : normRow (iblk m c 1 t) (iblk m c 2 t) (iblk m c 3 t) (iblk m c 4 t) = colN m c (min t.val 6) := by
      unfold colN; rw [Nat.min_eq_left (by omega), pt_val]
    by_cases h1 : t.val % 7 = 0
    · have hxa := xa_open m c t h1
      have hI1 := inv_first m c t h0 s0 s1 s2 _ hI hxa
      have ho := out_first m c t h0 _ hxa
      iapply (run_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) _ s0 s1 s2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      rw [ho, hn]
      isplitl [HS0 HS1 HS2 Hg]
      · isplitl [HS0 HS1 HS2]
        · iexists _, _, _
          isplitl [HS0]; · iexact HS0
          isplitl [HS1]; · iexact HS1
          isplitl [HS2]; · iexact HS2
          ipureintro; exact hI1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves0_7 m c t); iexact H7
    · have hxa := xa_kept m c t h1 s0 s1 s2 hI
      have hI1 := inv_first m c t h0 s0 s1 s2 _ hI hxa
      have ho := out_first m c t h0 _ hxa
      iapply (run_B c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _ s0 s1 s2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      rw [ho, hn]
      isplitl [HS0 HS1 HS2 Hg]
      · isplitl [HS0 HS1 HS2]
        · iexists _, _, _
          isplitl [HS0]; · iexact HS0
          isplitl [HS1]; · iexact HS1
          isplitl [HS2]; · iexact HS2
          ipureintro; exact hI1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves0_7 m c t); iexact H7
  · by_cases h1 : t.val % 7 = 0
    · have hxa := xa_open m c t h1
      have hI1 := inv_later m c t h0 s0 s1 s2 _ hI hxa
      have ho := out_later m c t h0 s0 s1 s2 _ hI hxa
      rw [before0_7 m c d7 (t.val - 7) t (by omega)]
      iapply (run_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ s0 s1 s2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      rw [ho, show colN m c 6 = colN m c (min t.val 6) by rw [Nat.min_eq_right (by omega)]]
      isplitl [HS0 HS1 HS2 Hg]
      · isplitl [HS0 HS1 HS2]
        · iexists _, _, _
          isplitl [HS0]; · iexact HS0
          isplitl [HS1]; · iexact HS1
          isplitl [HS2]; · iexact HS2
          ipureintro; exact hI1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves0_7 m c t); iexact H7
    · have hxa := xa_kept m c t h1 s0 s1 s2 hI
      have hI1 := inv_later m c t h0 s0 s1 s2 _ hI hxa
      have ho := out_later m c t h0 s0 s1 s2 _ hI hxa
      rw [before0_7 m c d7 (t.val - 7) t (by omega)]
      iapply (run_D c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ s0 s1 s2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      rw [ho, show colN m c 6 = colN m c (min t.val 6) by rw [Nat.min_eq_right (by omega)]]
      isplitl [HS0 HS1 HS2 Hg]
      · isplitl [HS0 HS1 HS2]
        · iexists _, _, _
          isplitl [HS0]; · iexact HS0
          isplitl [HS1]; · iexact HS1
          isplitl [HS2]; · iexact HS2
          ipureintro; exact hI1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves0_7 m c t); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The region opens with the scratch at any contents: nothing has been met yet. -/
theorem phi_in (c : Dev nD) : Pipeline.ΦA spec0 c ⊢ (dats (F := F) m 0 c).Φ 0 := by
  rw [show (dats m 0 c).Φ 0 = PhiT m c 0 from rfl, PhiA0_eq]
  unfold PhiT
  iintro ⟨⟨⟨%s0, HS0⟩, ⟨%s1, HS1⟩, ⟨%s2, HS2⟩⟩, Hg⟩
  isplitl [HS0 HS1 HS2]
  · iexists _, _, _
    isplitl [HS0]; · iexact HS0
    isplitl [HS1]; · iexact HS1
    isplitl [HS2]; · iexact HS2
    ipureintro
    exact ⟨fun j hj => absurd hj (Nat.not_lt_zero _), fun h => absurd rfl h⟩
  iexact Hg

/-- At the end the scratch's contents are given up. -/
theorem phi_out (c : Dev nD) : (dats (F := F) m 0 c).Φ (Fin.last cfg0.N) ⊢ Pipeline.ΦA spec0 c := by
  rw [show (dats m 0 c).Φ (Fin.last cfg0.N) = PhiT m c cfg0.N from rfl, PhiA0_eq]
  unfold PhiT
  iintro ⟨⟨%s0, %s1, %s2, HS0, HS1, HS2, -⟩, Hg⟩
  isplitl [HS0 HS1 HS2]
  · isplitl [HS0]; · iexists _; iexact HS0
    isplitl [HS1]; · iexists _; iexact HS1
    iexists _; iexact HS2
  iexact Hg

set_option backward.isDefEq.respectTransparency.types false in
set_option maxHeartbeats 800000 in
/-- The launch: every run of the program ends with the arrays as the proof data says and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every argument array ends as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Val

end
-- ==== Proof.KernelFrame.lean ====
/- The frame of the kernel at the bit-exact floats, read off the frame proved for its idealization.
   The idealization rewrites no operation, so the two programs are one text, and `Launch` proves the frame at every
   kind of float. -/
module

public import proofs.«01_k».proof.Defs
public import proofs.«01_k».proof.Proof.Gen.Kernel
public import proofs.«01_k».proof.Proof.Launch

@[expose] public section

set_option maxRecDepth 16384

noncomputable section

namespace Cert.Kernel.Val

open Idealize.ShloMosaic Idealize.SL.Sem

local instance : Cert.Kernel.Facts := Cert.Kernel.Gen.facts
local instance : Cert.KernelIdeal.Facts := Cert.KernelIdeal.Gen.facts

variable {F : FTy → Type} [FloatOps F]

/-- The one kernel body of the kernel and that of its idealization are the same program. -/
theorem body_eq : Cert.Kernel.defs₀ (F := F) = Cert.KernelIdeal.defs₀ (F := F) := by
  refine congrArg (Defs.onTc (nD := Cert.Kernel.nD) (τ := Cert.Kernel.τ) (sig := Cert.Kernel.sig) (Val := Elt F)
    (Λ := Cert.Kernel.Λ₀)) (funext fun l => funext fun a => ?_)
  match l, a with
  | ⟨0, _⟩, (t, s) => rfl

/-- So are the two programs' functions: the body and the pipeline around it. -/
theorem defs_eq : Cert.Kernel.defs (F := F) = Cert.KernelIdeal.defs (F := F) :=
  congrArg (Pipeline.defs (Cert.Kernel.pcfgs (F := F))) body_eq

/-- The kernel's frame: it runs, its argument arrays end as they began, and every counter ends at zero. -/
theorem frame : Cert.quiescent_Kernel (hKernel := Cert.Kernel.Gen.facts) := by
  intro m g _
  have h := Cert.KernelIdeal.Val.frame (F := Bits) m g
  rw [← defs_eq] at h
  exact h

end Cert.Kernel.Val

end
-- ==== Proof.Spec.lean ====
/- One output column as a formula over the extended reals, and the facts both programs' readings need. -/
module

public import Idealize.ShloMosaic.Lib.Pointwise
public import Idealize.ShloMosaic.Lib.BitcastPair
public import Idealize.ShloMosaic.Lib.Pipeline.ValueKit

@[expose] public section

noncomputable section

namespace Cert.Spec

open Idealize.ShloMosaic
open scoped BigOperators

/-! # One output column

A column of the packed weight is 768 bytes, two signed 4-bit codes a byte with the even row in the low half, and twelve
scales, one for each 128 rows. -/

/-- Half `p` of a byte, 0 the low one, as a signed 4-bit number. -/
def nib (q : BitVec 8) (p : Nat) : EReal := (((q.extractLsb' (4 * p) 4).toInt : ℝ) : EReal)

/-- The number two. -/
def two : EReal := ((2 : ℝ) : EReal)

/-- The decoded weight in row `k`. -/
def wgt (q : Fin 768 → BitVec 8) (s : Fin 12 → EReal) (k : Fin 1536) : EReal :=
  nib (q ⟨k.val / 2, by omega⟩) (k.val % 2) * s ⟨k.val / 128, by omega⟩

/-- The weight in row `k` with twice the low-rank correction added. -/
def dir (q : Fin 768 → BitVec 8) (s : Fin 12 → EReal) (A : Fin 1536 → Fin 64 → EReal) (b : Fin 64 → EReal) (k : Fin 1536) : EReal :=
  wgt q s k + two * ∑ r : Fin 64, A k r * b r

/-- The column's norm. -/
def norm (q : Fin 768 → BitVec 8) (s : Fin 12 → EReal) (A : Fin 1536 → Fin 64 → EReal) (b : Fin 64 → EReal) : EReal :=
  Ideal.sqrt (∑ k : Fin 1536, dir q s A b k * dir q s A b k)

/-- The output at a row `x` of the activations and this column, whose magnitude is `μ`. -/
def out (x : Fin 1536 → EReal) (q : Fin 768 → BitVec 8) (s : Fin 12 → EReal) (A : Fin 1536 → Fin 64 → EReal) (b : Fin 64 → EReal)
    (μ : EReal) : EReal :=
  ((∑ k : Fin 1536, x k * wgt q s k) + two * ∑ r : Fin 64, (∑ k : Fin 1536, x k * A k r) * b r) * Ideal.div μ (norm q s A b)

/-! ## Constants -/

/-- The f32 constant two denotes the number two. -/
theorem ofBits_two_f32 : Ideal.ofBits .f32 0x40000000#32 = two := by
  unfold two
  simp [Ideal.ofBits, Ideal.ieee, -EReal.coe_mul]; norm_num

/-- The bf16 constant two denotes the number two. -/
theorem ofBits_two_bf16 : Ideal.ofBits .bf16 0x4000#16 = two := by
  unfold two
  simp [Ideal.ofBits, Ideal.ieee, -EReal.coe_mul]; norm_num

/-- The bf16 pattern `0x4300 + n` for a 4-bit `n` is 128 + n: the numbers from 128 up have steps of one. -/
theorem ofBits_code (n : Fin 16) : Ideal.ofBits .bf16 (BitVec.ofNat 16 (0x4300 + n.val)) = ((128 + (n.val : ℝ) : ℝ) : EReal) := by
  have he : (BitVec.ofNat 16 (0x4300 + n.val)).extractLsb' 7 8 = 134#8 := by revert n; decide
  have hf : ((BitVec.ofNat 16 (0x4300 + n.val)).extractLsb' 0 7).toNat = n.val := by revert n; decide
  have hs : (BitVec.ofNat 16 (0x4300 + n.val)).extractLsb' 15 1 = 0#1 := by revert n; decide
  show Ideal.ieee 8 7 _ = _
  unfold Ideal.ieee
  rw [hf, show (8 + 7 : Nat) = 15 from rfl, he, hs]
  norm_num

/-- Two times a sum is the sum of the doubled terms. -/
theorem two_mul_sum {ι : Type} (S : Finset ι) (f : ι → EReal) : two * ∑ i ∈ S, f i = ∑ i ∈ S, two * f i := by
  classical
  induction S using Finset.induction_on with
  | empty => simp
  | insert a S ha ih =>
    rw [Finset.sum_insert ha, Finset.sum_insert ha, ← ih]
    exact EReal.left_distrib_of_nonneg_of_ne_top (EReal.coe_nonneg.2 (by norm_num : (0 : ℝ) ≤ 2)) (EReal.coe_ne_top 2) _ _

/-! ## The kernel's decoding of a byte -/

/-- The word the kernel builds from a byte: both codes, each with its sign bit flipped, over two bf16 exponents. -/
def word (q : BitVec 8) : BitVec 32 := ((q.setWidth 32 &&& 15#32) ||| ((q.setWidth 32 &&& 240#32) <<< 12)) ^^^ 1124614920#32

/-- Half `p` of the word, read as bf16, is 136 more than the code. -/
theorem word_code (q : BitVec 8) (p : Nat) (hp : p < 2) :
    Ideal.ofBits .bf16 ((word q).extractLsb' (16 * p) 16) - Ideal.ofBits .bf16 0x4308#16 = nib q p := by
  have key : ∀ (a : Fin 256) (p : Fin 2), ∃ n : Fin 16,
      (word (BitVec.ofNat 8 a.val)).extractLsb' (16 * p.val) 16 = BitVec.ofNat 16 (0x4300 + n.val)
      ∧ ((BitVec.ofNat 8 a.val).extractLsb' (4 * p.val) 4).toInt = (n.val : Int) - 8 := by decide +kernel
  obtain ⟨n, h1, h2⟩ := key ⟨q.toNat, q.isLt⟩ ⟨p, hp⟩
  simp only [BitVec.ofNat_toNat, BitVec.setWidth_eq] at h1 h2
  unfold nib
  rw [h1, h2, ofBits_code, show (0x4308#16 : BitVec 16) = BitVec.ofNat 16 (0x4300 + (8 : Fin 16).val) from by decide, ofBits_code,
    ← EReal.coe_sub]
  congr 1
  push_cast
  norm_num
  ring

/-! ## The reference's decoding of a byte -/

/-- The reference's signed code from the 4-bit value `v`. -/
def signed (v : BitVec 32) : BitVec 32 := if (8#32).sle v then v - 16#32 else v

/-- The low four bits of a byte, decoded by the comparison with eight, are its first signed nibble. -/
theorem signed_lo (q : BitVec 8) : (((signed (q.setWidth 32 &&& 15#32)).toInt : ℝ) : EReal) = nib q 0 := by
  have key : ∀ a : Fin 256, (signed ((BitVec.ofNat 8 a.val).setWidth 32 &&& 15#32)).toInt = ((BitVec.ofNat 8 a.val).extractLsb' 0 4).toInt := by
    decide +kernel
  have h := key ⟨q.toNat, q.isLt⟩
  simp only [BitVec.ofNat_toNat, BitVec.setWidth_eq] at h
  unfold nib
  rw [h]

/-- The high four bits of a byte, decoded by the comparison with eight, are its second signed nibble. -/
theorem signed_hi (q : BitVec 8) : (((signed ((q.setWidth 32).sshiftRight' 4#32 &&& 15#32)).toInt : ℝ) : EReal) = nib q 1 := by
  have key : ∀ a : Fin 256, (signed (((BitVec.ofNat 8 a.val).setWidth 32).sshiftRight' 4#32 &&& 15#32)).toInt
      = ((BitVec.ofNat 8 a.val).extractLsb' 4 4).toInt := by
    decide +kernel
  have h := key ⟨q.toNat, q.isLt⟩
  simp only [BitVec.ofNat_toNat, BitVec.setWidth_eq] at h
  unfold nib
  rw [h]

/-! ## Sums cut into groups -/

/-- A sum over 1536 rows, even rows and odd rows apart. -/
theorem sum_halves (f : Fin 1536 → EReal) :
    ∑ k : Fin 1536, f k = (∑ i : Fin 768, f ⟨2 * i.val, by omega⟩) + ∑ i : Fin 768, f ⟨2 * i.val + 1, by omega⟩ := by
  rw [← Finset.sum_add_distrib, ← Equiv.sum_comp (finProdFinEquiv (m := 768) (n := 2)) f, Fintype.sum_prod_type]
  refine Finset.sum_congr rfl fun i _ => ?_
  rw [Fin.sum_univ_two]
  congr 1 <;> refine congrArg f (Fin.ext ?_) <;> simp [finProdFinEquiv] <;> omega

/-- A sum over 1536 rows as twelve groups of 128. -/
theorem sum_groups (f : Fin 1536 → EReal) :
    ∑ k : Fin 1536, f k = ∑ g : Fin 12, ∑ r : Fin 128, f ⟨128 * g.val + r.val, by omega⟩ := by
  rw [← Equiv.sum_comp (finProdFinEquiv (m := 12) (n := 128)) f, Fintype.sum_prod_type]
  refine Finset.sum_congr rfl fun i _ => Finset.sum_congr rfl fun r _ => congrArg f (Fin.ext ?_)
  simp [finProdFinEquiv]; omega

end Cert.Spec
end
-- ==== Proof.KerVal.lean ====
/- The kernel's blocks read at a column: the formula of `Spec`. -/
module

public import proofs.«01_k».proof.Proof.Blocks
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe
open scoped BigOperators

variable (x0 : Vec Ideal S1024x1536 .bf16) (x1 : Vec Ideal S768x1280 .i8) (x2 : Vec Ideal S12x1280 .bf16)
  (x3 : Vec Ideal S1536x64 .bf16) (x4 : Vec Ideal S64x1280 .bf16) (x5 : Vec Ideal S1x1280 .f32)

/-- A row of a 128-row group of 16-bit words comes from the 32-bit word of half its number. -/
theorem bitcast_group (x : IVec S64x1280 32) (r : Fin 128) (n : Fin 1280) :
    bitcast S128x1280 16 x bitcasts_S64x1280_w32_S128x1280_w16 (ix2 r n)
      = (x (ix2 ⟨r.val / 2, by omega⟩ n)).extractLsb' (16 * (r.val % 2)) 16 := by
  rw [bitcast_32_16]
  refine congrArg (fun i => (x i).extractLsb' (16 * (r.val % 2)) 16) (funext fun a => Fin.ext ?_)
  match a with
  | ⟨0, _⟩ => exact Shape.Bitcasts.srcIdx_row _ _ _ _ _ rfl
  | ⟨1, _⟩ => exact Shape.Bitcasts.srcIdx_other _ _ _ _ _ (show ¬ (1 : Nat) + 2 = 2 by decide)

/-- A group of decoded rows at an index. -/
theorem pay46_at (v : Vec Ideal S64x1280 .i8) (s : Vec Ideal S1x1280 .bf16) (r : Fin 128) (n : Fin 1280) :
    k0_pay46 v s (ix2 r n) = Spec.nib (v (ix2 ⟨r.val / 2, by omega⟩ n)) (r.val % 2) * s (ix2 0 n) := by
  rw [← Spec.word_code _ _ (Nat.mod_lt _ (by decide))]
  pointwise [k0_pay46]
  rw [bitcast_group]
  rfl

/-- A sum's next group: the squares of the group's directions are added. -/
theorem pay48_at (t : FVec Ideal S1x1280 .f32) (d : FVec Ideal S128x1280 .bf16) (a : Vec Ideal S128x64 .bf16) (b : Vec Ideal S64x1280 .bf16)
    (n : Fin 1280) :
    k0_pay48 t d a b (ix2 0 n) = t (ix2 0 n) + ∑ r : Fin 128, (d (ix2 r n) + Spec.two * ∑ l : Fin 64, a (ix2 r l) * b (ix2 l n))
      * (d (ix2 r n) + Spec.two * ∑ l : Fin 64, a (ix2 r l) * b (ix2 l n)) := by
  rw [← Spec.ofBits_two_f32]
  pointwise [k0_pay48]

/-- The doubled low-rank product at an index. -/
theorem pay3_at (r : Fin 1024) (l : Fin 64) :
    k0_pay3 x0 x3 (ix2 r l) = (∑ k : Fin 1536, x0 (ix2 r k) * x3 (ix2 k l)) * Spec.two := by
  rw [← Spec.ofBits_two_bf16]
  pointwise [k0_pay3]

/-- The output block at an index. -/
theorem outBlk_at (d : Vec Ideal S1536x1280 .bf16) (xa : Vec Ideal S1024x64 .bf16) (g : Vec Ideal S1x1280 .f32) (r : Fin 1024) (n : Fin 1280) :
    outBlk x0 d xa x4 g (ix2 r n) = ((∑ k : Fin 1536, x0 (ix2 r k) * d (ix2 k n)) + ∑ l : Fin 64, xa (ix2 r l) * x4 (ix2 l n)) * g (ix2 0 n) := by
  pointwise [outBlk, k0_pay4]

/-! ## The columns of a grid column's blocks -/

/-- Column `n` of a block of codes. -/
abbrev qCol (n : Fin 1280) : Fin 768 → BitVec 8 := fun i => x1 (ix2 i n)
/-- Column `n` of a block of scales. -/
abbrev sCol (n : Fin 1280) : Fin 12 → EReal := fun g => x2 (ix2 g n)
/-- The first low-rank factor by rows and columns. -/
abbrev aMat : Fin 1536 → Fin 64 → EReal := fun k r => x3 (ix2 k r)
/-- Column `n` of a block of the second low-rank factor. -/
abbrev bCol (n : Fin 1280) : Fin 64 → EReal := fun r => x4 (ix2 r n)

/-- A decoded weight at row `128 g + r`. -/
theorem grpD_at (g : Fin 12) (r : Fin 128) (n : Fin 1280) :
    grpD x1 x2 g.val (ix2 r n) = Spec.wgt (qCol x1 n) (sCol x2 n) ⟨128 * g.val + r.val, by omega⟩ := by
  refine (pay46_at _ _ r n).trans ?_
  unfold Spec.wgt
  have e1 : (128 * g.val + r.val) % 2 = r.val % 2 := by omega
  have e2 : Fin.ofNat 768 (64 * g.val + r.val / 2) = ⟨(128 * g.val + r.val) / 2, by omega⟩ := Fin.ext (by
    show (64 * g.val + r.val / 2) % 768 = (128 * g.val + r.val) / 2
    omega)
  have e3 : Fin.ofNat 12 g.val = ⟨(128 * g.val + r.val) / 128, by omega⟩ := Fin.ext (by
    show g.val % 12 = (128 * g.val + r.val) / 128
    omega)
  show Spec.nib (x1 (ix2 (Fin.ofNat 768 (64 * g.val + r.val / 2)) n)) (r.val % 2) * x2 (ix2 (Fin.ofNat 12 g.val) n) = _
  rw [e2, e3]
  dsimp only
  rw [e1]

/-- The decoded block at an index. -/
theorem decD_at (k : Fin 1536) (n : Fin 1280) : decD x1 x2 (ix2 k n) = Spec.wgt (qCol x1 n) (sCol x2 n) k := by
  refine (grpD_at x1 x2 ⟨k.val / 128, by omega⟩ (Fin.ofNat 128 k.val) n).trans (congrArg _ (Fin.ext ?_))
  show 128 * (k.val / 128) + k.val % 128 = k.val
  omega

/-- The running total after `g` groups at a column. -/
theorem tot_at (n : Fin 1280) : ∀ (g : Nat) (hg : g ≤ 12), tot x1 x2 x3 x4 g (ix2 0 n)
    = ∑ i : Fin g, ∑ r : Fin 128, Spec.dir (qCol x1 n) (sCol x2 n) (aMat x3) (bCol x4 n) ⟨128 * i.val + r.val, by omega⟩
        * Spec.dir (qCol x1 n) (sCol x2 n) (aMat x3) (bCol x4 n) ⟨128 * i.val + r.val, by omega⟩
  | 0, _ => by
    rw [Fin.sum_univ_zero]
    exact Ideal.ofBits_zero_f32
  | g + 1, hg => by
    rw [Fin.sum_univ_castSucc]
    refine (pay48_at _ _ _ _ n).trans ?_
    rw [tot_at n g (by omega)]
    refine congrArg _ (Finset.sum_congr rfl fun r _ => ?_)
    have ha : ∀ l : Fin 64, aBlk x3 g (ix2 r l) = aMat x3 ⟨128 * g + r.val, by omega⟩ l := fun l =>
      congrArg (fun i => x3 (ix2 i l)) (Fin.ext (show (128 * g + r.val) % 1536 = 128 * g + r.val by omega))
    rw [grpD_at x1 x2 ⟨g, by omega⟩ r n]
    simp only [ha]
    rfl

/-- The row of norms at a column. -/
theorem normRow_at (n : Fin 1280) : normRow x1 x2 x3 x4 (ix2 0 n) = Spec.norm (qCol x1 n) (sCol x2 n) (aMat x3) (bCol x4 n) := by
  show Ideal.sqrt (tot x1 x2 x3 x4 12 (ix2 0 n)) = _
  rw [tot_at x1 x2 x3 x4 n 12 le_rfl]
  unfold Spec.norm
  rw [Spec.sum_groups]

/-- The row of gains at a column. -/
theorem gainRow_at (n : Fin 1280) : gainRow x1 x2 x3 x4 x5 (ix2 0 n)
    = Ideal.div (x5 (ix2 0 n)) (Spec.norm (qCol x1 n) (sCol x2 n) (aMat x3) (bCol x4 n)) := by
  rw [← normRow_at]
  rfl

/-- The output block of a point at an index: the decoded weights and the gains are those of the blocks `x1 … x5`. -/
theorem out_at (r : Fin 1024) (n : Fin 1280) (xb : Vec Ideal S1024x1536 .bf16) (hx : xb = x0) :
    outBlk x0 (decD x1 x2) (k0_pay3 xb x3) x4 (gainRow x1 x2 x3 x4 x5) (ix2 r n)
      = Spec.out (fun k => x0 (ix2 r k)) (qCol x1 n) (sCol x2 n) (aMat x3) (bCol x4 n) (x5 (ix2 0 n)) := by
  subst hx
  rw [outBlk_at, gainRow_at]
  unfold Spec.out
  rw [Spec.two_mul_sum]
  simp only [decD_at, pay3_at]
  refine congrArg (· * _) (congrArg _ (Finset.sum_congr rfl fun l _ => ?_))
  rw [mul_comm _ Spec.two, mul_assoc]

end Cert.KernelIdeal.Val
end
-- ==== Proof.Final.lean ====
/- The two arrays the region leaves, element by element: the formula of `Spec`. -/
module

public import proofs.«01_k».proof.Proof.Launch
public import proofs.«01_k».proof.Proof.KerVal

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD)

/-- Which block each window is at, at every point. -/
theorem idx : ∀ t : Fin cfg0.N, win0_0.index t = ![t.val / 7, 0] ∧ win0_1.index t = ![0, min t.val 6] ∧ win0_2.index t = ![0, min t.val 6]
    ∧ win0_3.index t = ![0, 0] ∧ win0_4.index t = ![0, t.val % 7] ∧ win0_5.index t = ![0, min t.val 6]
    ∧ win0_6.index t = ![t.val / 7, t.val % 7] ∧ win0_7.index t = ![0, min t.val 6] :=
  (by decide +kernel : ∀ t : Fin grid0.N, _)

/-! ## The arrays the region finds -/

/-- The activations as a matrix of 16384 rows. -/
abbrev aX : FVec Ideal S16384x1536 .bf16 := V m c main_v0
/-- The packed codes. -/
abbrev aQ : IVec S768x8960 8 := V m c main_arg1
/-- The scales. -/
abbrev aS : FVec Ideal S12x8960 .bf16 := V m c main_arg2
/-- The first low-rank factor. -/
abbrev aA : FVec Ideal S1536x64 .bf16 := V m c main_arg3
/-- The second low-rank factor. -/
abbrev aB : FVec Ideal S64x8960 .bf16 := V m c main_arg4
/-- The magnitudes as one row. -/
abbrev aM : FVec Ideal S1x8960 .f32 := V m c main_v1

/-! ## The blocks as parts of the arrays -/

/-- There are 112 grid points. -/
theorem t_lt (t : Fin cfg0.N) : t.val < 112 := lt_of_lt_of_eq t.isLt (show cfg0.N = 112 from N_0)

/-- The block of activations at a grid point: 1024 rows. -/
theorem blk0_at (t : Fin cfg0.N) (r : Fin 1024) (k : Fin 1536) :
    iblk m c 0 t (ix2 r k) = aX m c (ix2 ⟨1024 * (t.val / 7) + r.val, by have := t_lt t; omega⟩ k) := by
  blk_ext [iblk, idx t]

/-- The block of packed codes at a grid point: 1280 columns, those of the last block after the first row of blocks. -/
theorem blk1_at (t : Fin cfg0.N) (i : Fin 768) (n : Fin 1280) :
    iblk m c 1 t (ix2 i n) = aQ m c (ix2 i ⟨1280 * min t.val 6 + n.val, by omega⟩) := by
  blk_ext [iblk, idx t]

/-- The block of scales at a grid point: the same columns as the codes. -/
theorem blk2_at (t : Fin cfg0.N) (g : Fin 12) (n : Fin 1280) :
    iblk m c 2 t (ix2 g n) = aS m c (ix2 g ⟨1280 * min t.val 6 + n.val, by omega⟩) := by
  blk_ext [iblk, idx t]

/-- The block of the first factor is the whole factor. -/
theorem blk3_at (t : Fin cfg0.N) (k : Fin 1536) (r : Fin 64) : iblk m c 3 t (ix2 k r) = aA m c (ix2 k r) := by
  blk_ext [iblk, idx t]

/-- The block of the second factor at a grid point: the 1280 columns of the output block. -/
theorem blk4_at (t : Fin cfg0.N) (r : Fin 64) (n : Fin 1280) :
    iblk m c 4 t (ix2 r n) = aB m c (ix2 r ⟨1280 * (t.val % 7) + n.val, by omega⟩) := by
  blk_ext [iblk, idx t]

/-- The block of magnitudes at a grid point: the same columns as the codes. -/
theorem blk5_at (t : Fin cfg0.N) (n : Fin 1280) :
    iblk m c 5 t (ix2 0 n) = aM m c (ix2 0 ⟨1280 * min t.val 6 + n.val, by omega⟩) := by
  blk_ext [iblk, idx t]

/-! ## The columns of the arrays -/

/-- Column `n` of the packed codes. -/
abbrev gQ (n : Fin 8960) : Fin 768 → BitVec 8 := fun i => aQ m c (ix2 i n)
/-- Column `n` of the scales. -/
abbrev gS (n : Fin 8960) : Fin 12 → EReal := fun g => aS m c (ix2 g n)
/-- The first low-rank factor by rows and columns. -/
abbrev gA : Fin 1536 → Fin 64 → EReal := fun k r => aA m c (ix2 k r)
/-- Column `n` of the second low-rank factor. -/
abbrev gB (n : Fin 8960) : Fin 64 → EReal := fun r => aB m c (ix2 r n)

/-- The norms the kernel returns, as one row. -/
def normArr : FVec Ideal S1x8960 .f32 := fun i => Spec.norm (gQ m c (i 1)) (gS m c (i 1)) (gA m c) (gB m c (i 1))

/-- The output the kernel returns, as a matrix of 16384 rows. -/
def outArr : FVec Ideal S16384x8960 .bf16 := fun i =>
  Spec.out (fun k => aX m c (ix2 (i 0) k)) (gQ m c (i 1)) (gS m c (i 1)) (gA m c) (gB m c (i 1)) (aM m c (ix2 0 (i 1)))

/-- Column `n` of column block `j` is column `1280 j + n` of the arrays: the codes. -/
theorem qCol_pt (j : Nat) (hj : j < 7) (n : Fin 1280) : qCol (iblk m c 1 (pt j)) n = gQ m c ⟨1280 * j + n.val, by omega⟩ := by
  funext i
  refine (blk1_at m c (pt j) i n).trans (congrArg (fun k => aQ m c (ix2 i k)) (Fin.ext ?_))
  show 1280 * min (j % 112) 6 + n.val = 1280 * j + n.val
  omega

/-- … the scales. -/
theorem sCol_pt (j : Nat) (hj : j < 7) (n : Fin 1280) : sCol (iblk m c 2 (pt j)) n = gS m c ⟨1280 * j + n.val, by omega⟩ := by
  funext i
  refine (blk2_at m c (pt j) i n).trans (congrArg (fun k => aS m c (ix2 i k)) (Fin.ext ?_))
  show 1280 * min (j % 112) 6 + n.val = 1280 * j + n.val
  omega

/-- … the second low-rank factor. -/
theorem bCol_pt (j : Nat) (hj : j < 7) (n : Fin 1280) : bCol (iblk m c 4 (pt j)) n = gB m c ⟨1280 * j + n.val, by omega⟩ := by
  funext i
  refine (blk4_at m c (pt j) i n).trans (congrArg (fun k => aB m c (ix2 i k)) (Fin.ext ?_))
  show 1280 * (j % 112 % 7) + n.val = 1280 * j + n.val
  omega

/-- … the magnitudes. -/
theorem mag_pt (j : Nat) (hj : j < 7) (n : Fin 1280) : iblk m c 5 (pt j) (ix2 0 n) = aM m c (ix2 0 ⟨1280 * j + n.val, by omega⟩) := by
  refine (blk5_at m c (pt j) n).trans (congrArg (fun k => aM m c (ix2 0 k)) (Fin.ext ?_))
  show 1280 * min (j % 112) 6 + n.val = 1280 * j + n.val
  omega

/-- … and the first low-rank factor is whole at every point. -/
theorem aMat_pt (t : Fin cfg0.N) : aMat (iblk m c 3 t) = gA m c := by
  funext k r
  exact blk3_at m c t k r

/-- The first low-rank factor's block is one at all points. -/
theorem blk3_eq (t t' : Fin cfg0.N) : (iblk m c 3 t : Vec Ideal S1536x64 .bf16) = iblk m c 3 t' := by
  funext y
  rw [← ix2_eta y]
  exact (blk3_at m c t _ _).trans (blk3_at m c t' _ _).symm

/-- The activations' block is one along a row of blocks. -/
theorem blk0_eq (t : Fin cfg0.N) : (iblk m c 0 (pt (7 * (t.val / 7))) : Vec Ideal S1024x1536 .bf16) = iblk m c 0 t := by
  funext y
  rw [← ix2_eta y]
  refine (blk0_at m c _ _ _).trans (Eq.trans (congrArg (fun i => aX m c (ix2 i _)) (Fin.ext ?_)) (blk0_at m c t _ _).symm)
  have h := t_lt t
  show 1024 * (7 * (t.val / 7) % 112 / 7) + _ = 1024 * (t.val / 7) + _
  omega

/-- The second low-rank factor's block is the one the column block was met with. -/
theorem blk4_eq (t : Fin cfg0.N) : (iblk m c 4 t : Vec Ideal S64x1280 .bf16) = iblk m c 4 (pt (t.val % 7)) := by
  funext y
  rw [← ix2_eta y]
  refine (blk4_at m c _ _ _).trans (Eq.trans (congrArg (fun i => aB m c (ix2 _ i)) (Fin.ext ?_)) (blk4_at m c _ _ _).symm)
  show 1280 * (t.val % 7) + _ = 1280 * (t.val % 7 % 112 % 7) + _
  omega

/-! ## The blocks written back -/

/-- The norms of a column block. -/
theorem colN_at (j : Nat) (hj : j < 7) (n : Fin 1280) :
    colN m c j (ix2 0 n) = normArr m c (ix2 0 ⟨1280 * j + n.val, by omega⟩) := by
  refine (normRow_at _ _ _ _ n).trans ?_
  rw [qCol_pt m c j hj, sCol_pt m c j hj, aMat_pt, bCol_pt m c j hj]
  rfl

/-- The output block of a point. -/
theorem outAt_at (t : Fin cfg0.N) (r : Fin 1024) (n : Fin 1280) :
    outAt m c t (ix2 r n) = outArr m c (ix2 ⟨1024 * (t.val / 7) + r.val, by have := t_lt t; omega⟩ ⟨1280 * (t.val % 7) + n.val, by omega⟩) := by
  have hj : t.val % 7 < 7 := Nat.mod_lt _ (by decide)
  unfold outAt colD colG rowXA
  rw [blk3_eq m c (pt (7 * (t.val / 7))) (pt (t.val % 7)), blk4_eq m c t]
  refine (out_at _ _ _ _ _ _ r n _ (blk0_eq m c t)).trans ?_
  rw [qCol_pt m c _ hj, sCol_pt m c _ hj, aMat_pt, bCol_pt m c _ hj, mag_pt m c _ hj]
  unfold outArr
  refine congrArg (fun x => Spec.out x _ _ _ _ _) (funext fun k => ?_)
  exact blk0_at m c t r k

/-! ## The arrays the region leaves -/

/-- The output array. -/
theorem final6 : (dats m 0 c).arrAt 6 cfg0.N = outArr m c := by
  refine (dats m 0 c).arrAt_eq_of_covers 6 _ (by decide +kernel) fun t hf y => ?_
  blk_simp
  rw [after0_6]
  refine (congrArg (outAt m c t) (ix2_eta y).symm).trans ((outAt_at m c t (y 0) (y 1)).trans ?_)
  blk_ext [idx t]

/-- The array of norms. -/
theorem final7 : (dats m 0 c).arrAt 7 cfg0.N = normArr m c := by
  refine (dats m 0 c).arrAt_eq_of_covers 7 _ (by decide +kernel) fun t hf y => ?_
  blk_simp
  rw [after0_7]
  have h0 : (show Fin 1 from y 0) = 0 := Subsingleton.elim (α := Fin 1) _ _
  refine (congrArg (colN m c (min t.val 6)) (ix2_eta y).symm).trans ?_
  refine Eq.trans ?_ ((colN_at m c (min t.val 6) (by omega) (y 1)).trans ?_)
  · exact congrArg (fun i => colN m c (min t.val 6) (ix2 i (y 1))) h0
  · blk_ext [idx t]

end Cert.KernelIdeal.Val
end
-- ==== Proof.RefVal.lean ====
/- The reference's two results read at an index: the formula of `Spec`. -/
module

public import proofs.«01_k».proof.Proof.Gen.ReferenceIdeal.Run
public import proofs.«01_k».proof.Proof.Spec

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo
open scoped BigOperators

/-! ## The reference's intermediate tensors

`half` is one half of every byte as a number before its sign is read; both results are built from the decoded even and
odd rows. -/

variable (X : FVec Ideal S16x1024x1536 .bf16) (Q : IVec S768x8960 8) (S : FVec Ideal S12x8960 .bf16) (A : FVec Ideal S1536x64 .bf16)
  (B : FVec Ideal S64x8960 .bf16) (M : FVec Ideal S8960 .f32)

/-- An integer splat. -/
abbrev splat (b : BitVec 32) : IVec S768x8960 32 := broadcastInDim S768x8960 ![] bcast_S_S768x8960 (constantI S_ 32 b)

/-- The low halves of the bytes. -/
def loHalf : IVec S768x8960 32 := andi (extui 32 Q natLt_8_32) (splat 15#32)

/-- The high halves of the bytes. -/
def hiHalf : IVec S768x8960 32 := andi (Host.shrsi (extui 32 Q natLt_8_32) (splat 4#32)) (splat 15#32)

/-- The decoded rows from one half of every byte: the signed code times the scale of its group. -/
def decoded (h : IVec S768x8960 32) : FVec Ideal S768x8960 .bf16 :=
  mulf (sitofp .bf16 (select (cmpi .sge h (splat 8#32)) (subi h (splat 16#32)) h))
    (shapeCast S768x8960 (broadcastInDim S12x64x8960 ![0, 2] bcast_S12x8960_S12x64x8960_0_2 S) shapeCasts_S12x64x8960_S768x8960)

/-- Decoded rows with twice the low-rank correction added, from the factor's matching rows. -/
def directed (d : FVec Ideal S768x8960 .bf16) (a : FVec Ideal S768x64 .bf16) : FVec Ideal S768x8960 .f32 :=
  addf (extf .f32 d bitsLt_bf16_f32) (mulf (broadcastInDim S768x8960 ![] bcast_S_S768x8960 (constant S_ .f32 0x40000000#32))
    (Host.dotGeneral dot_S768x64_S64x8960_S768x8960_1_0_0_1_n_n none a B))

/-- The squares of a half's rows, summed down each column. -/
def squares (v : FVec Ideal S768x8960 .f32) : FVec Ideal S8960 .f32 :=
  Host.reduceAdd (mulf v v) (constant S_ .f32 0x00000000#32) reducesTo_S768x8960_S8960_d0 h_S_

/-- The even rows of the first low-rank factor. -/
def aEven : FVec Ideal S768x64 .bf16 := Host.slice S768x64 ![0, 0] ![2, 1] A slicesBy_S1536x64_S768x64_0s2_0s1

/-- The odd rows of the first low-rank factor. -/
def aOdd : FVec Ideal S768x64 .bf16 := Host.slice S768x64 ![1, 0] ![2, 1] A slicesBy_S1536x64_S768x64_1s2_0s1

/-- The column norms. -/
def norms : FVec Ideal S8960 .f32 :=
  Host.sqrt (addf (squares (directed B (decoded S (loHalf Q)) (aEven A))) (squares (directed B (decoded S (hiHalf Q)) (aOdd A))))

/-- The output from the column norms. -/
def output (N : FVec Ideal S8960 .f32) : FVec Ideal S16x1024x8960 .bf16 :=
  truncf .bf16 (mulf (addf (addf
      (Host.dotGeneral dot_S16x1024x768_S768x8960_S16x1024x8960_2_0_01_1_n_n none (Host.slice S16x1024x768 ![0, 0, 0] ![1, 1, 2] X slicesBy_S16x1024x1536_S16x1024x768_0s1_0s1_0s2) (decoded S (loHalf Q)))
      (Host.dotGeneral dot_S16x1024x768_S768x8960_S16x1024x8960_2_0_01_1_n_n none (Host.slice S16x1024x768 ![0, 0, 1] ![1, 1, 2] X slicesBy_S16x1024x1536_S16x1024x768_0s1_0s1_1s2) (decoded S (hiHalf Q))))
      (mulf (broadcastInDim S16x1024x8960 ![] bcast_S_S16x1024x8960 (constant S_ .f32 0x40000000#32))
        (Host.dotGeneral dot_S16x1024x64_S64x8960_S16x1024x8960_2_0_01_1_n_n none (truncf .bf16 (Host.dotGeneral dot_S16x1024x1536_S1536x64_S16x1024x64_2_0_01_1_n_n none X A) bitsLt_bf16_f32) B)))
    (broadcastInDim S16x1024x8960 ![0, 1, 2] bcast_S1x1x8960_S16x1024x8960_0_1_2 (broadcastInDim S1x1x8960 ![2] bcast_S8960_S1x1x8960_2 (Host.divf M N)))) bitsLt_bf16_f32

/-! ## The columns -/

/-- Column `n` of the packed codes. -/
abbrev qCol (n : Fin 8960) : Fin 768 → BitVec 8 := fun i => Q (ix2 i n)
/-- Column `n` of the scales. -/
abbrev sCol (n : Fin 8960) : Fin 12 → EReal := fun g => S (ix2 g n)
/-- The first low-rank factor by rows and columns. -/
abbrev aMat : Fin 1536 → Fin 64 → EReal := fun k r => A (ix2 k r)
/-- Column `n` of the second low-rank factor. -/
abbrev bCol (n : Fin 8960) : Fin 64 → EReal := fun r => B (ix2 r n)

/-! ## Read at an index -/

/-- The chosen signed value of a half. -/
theorem select_signed (v : BitVec 32) : Scalar.select (IntOp.cmpi .sge v 8#32) (IntOp.subi v 16#32) v = Spec.signed v := by
  unfold Scalar.select IntOp.cmpi IntOp.subi Spec.signed
  by_cases h : (8#32).sle v = true
  · simp [h]
  · simp [h]

/-- A decoded half at an index: the signed code times the scale of its group. -/
theorem decoded_at (h : IVec S768x8960 32) (i : Fin 768) (n : Fin 8960) :
    decoded S h (ix2 i n) = (((Spec.signed (h (ix2 i n))).toInt : ℝ) : EReal) * S (ix2 ⟨i.val / 64, by omega⟩ n) := by
  rw [← select_signed]
  pointwise [decoded]
  rfl

/-- The decoded even rows are the column's even rows. -/
theorem lo_at (i : Fin 768) (n : Fin 8960) : decoded S (loHalf Q) (ix2 i n) = Spec.wgt (qCol Q n) (sCol S n) ⟨2 * i.val, by omega⟩ := by
  rw [decoded_at]
  unfold Spec.wgt
  dsimp only
  have e1 : 2 * i.val % 2 = 0 := by omega
  have e2 : (⟨2 * i.val / 2, by omega⟩ : Fin 768) = i := Fin.ext (show 2 * i.val / 2 = i.val by omega)
  have e3 : (⟨2 * i.val / 128, by omega⟩ : Fin 12) = ⟨i.val / 64, by omega⟩ := Fin.ext (show 2 * i.val / 128 = i.val / 64 by omega)
  rw [e1, e2, e3, ← Spec.signed_lo]
  rfl

/-- The decoded odd rows are the column's odd rows. -/
theorem hi_at (i : Fin 768) (n : Fin 8960) : decoded S (hiHalf Q) (ix2 i n) = Spec.wgt (qCol Q n) (sCol S n) ⟨2 * i.val + 1, by omega⟩ := by
  rw [decoded_at]
  unfold Spec.wgt
  dsimp only
  have e1 : (2 * i.val + 1) % 2 = 1 := by omega
  have e2 : (⟨(2 * i.val + 1) / 2, by omega⟩ : Fin 768) = i := Fin.ext (show (2 * i.val + 1) / 2 = i.val by omega)
  have e3 : (⟨(2 * i.val + 1) / 128, by omega⟩ : Fin 12) = ⟨i.val / 64, by omega⟩ := Fin.ext (show (2 * i.val + 1) / 128 = i.val / 64 by omega)
  rw [e1, e2, e3, ← Spec.signed_hi]
  rfl

/-- A half of the direction at an index: the decoded weight plus twice the low-rank product. -/
theorem directed_at (d : FVec Ideal S768x8960 .bf16) (a : FVec Ideal S768x64 .bf16) (i : Fin 768) (n : Fin 8960) :
    directed B d a (ix2 i n) = d (ix2 i n) + Spec.two * ∑ r : Fin 64, a (ix2 i r) * B (ix2 r n) := by
  rw [← Spec.ofBits_two_f32]
  pointwise [directed]

/-- The sum over the rows of the squares, at a column. -/
theorem squares_at (v : FVec Ideal S768x8960 .f32) (n : Fin 8960) :
    squares v (ix1 n) = ∑ i : Fin 768, v (ix2 i n) * v (ix2 i n) := by
  pointwise [squares]

/-- The even rows of the first factor. -/
theorem aEven_at (i : Fin 768) (r : Fin 64) : aEven A (ix2 i r) = A (ix2 ⟨2 * i.val, by omega⟩ r) := by
  pointwise [aEven]

/-- The odd rows of the first factor. -/
theorem aOdd_at (i : Fin 768) (r : Fin 64) : aOdd A (ix2 i r) = A (ix2 ⟨2 * i.val + 1, by omega⟩ r) := by
  pointwise [aOdd]
  exact congrArg (fun k => A (ix2 k r)) (Fin.ext (show 1 + 2 * i.val = 2 * i.val + 1 by omega))

/-- A column's norm. -/
theorem norms_at (n : Fin 8960) : norms Q S A B (ix1 n) = Spec.norm (qCol Q n) (sCol S n) (aMat A) (bCol B n) := by
  unfold Spec.norm
  rw [Spec.sum_halves]
  show Ideal.sqrt (squares _ (ix1 n) + squares _ (ix1 n)) = _
  simp only [squares_at, directed_at, lo_at, hi_at, aEven_at, aOdd_at]
  rfl

/-- The output at an index, from the column norms. -/
theorem output_at (N : FVec Ideal S8960 .f32) (a : Fin 16) (b : Fin 1024) (n : Fin 8960) :
    output X Q S A B M N (ix3 a b n)
      = (((∑ i : Fin 768, X (ix3 a b ⟨2 * i.val, by omega⟩) * decoded S (loHalf Q) (ix2 i n))
          + ∑ i : Fin 768, X (ix3 a b ⟨2 * i.val + 1, by omega⟩) * decoded S (hiHalf Q) (ix2 i n))
        + Spec.two * ∑ r : Fin 64, (∑ k : Fin 1536, X (ix3 a b k) * A (ix2 k r)) * B (ix2 r n)) * Ideal.div (M (ix1 n)) (N (ix1 n)) := by
  rw [← Spec.ofBits_two_f32]
  have e : ∀ i : Fin 768, (⟨1 + 2 * i.val, by omega⟩ : Fin 1536) = ⟨2 * i.val + 1, by omega⟩ := fun i =>
    Fin.ext (show 1 + 2 * i.val = 2 * i.val + 1 by omega)
  pointwise [output]
  simp only [e]

/-- The reference's output at an index is the column's formula. -/
theorem output_norms_at (a : Fin 16) (b : Fin 1024) (n : Fin 8960) :
    output X Q S A B M (norms Q S A B) (ix3 a b n)
      = Spec.out (fun k => X (ix3 a b k)) (qCol Q n) (sCol S n) (aMat A) (bCol B n) (M (ix1 n)) := by
  rw [output_at, norms_at]
  unfold Spec.out
  rw [Spec.sum_halves (fun k => X (ix3 a b k) * _)]
  simp only [lo_at, hi_at]

/-! ## The two results -/

variable (m : (ℓ : Loc nD τ sig) → Buf (Elt Ideal) ℓ) (c : Dev nD)

/-- The reference program's norms are the function `norms` of its arguments. -/
theorem res_norm : res_main_v40 (F := Ideal) m c = norms (m ((c.tc : Thread nD τ).loc main_arg1)) (m ((c.tc : Thread nD τ).loc main_arg2))
    (m ((c.tc : Thread nD τ).loc main_arg3)) (m ((c.tc : Thread nD τ).loc main_arg4)) := rfl

/-- The reference program's output is the function `output` of its arguments and its norms. -/
theorem res_output : res_main_v56 (F := Ideal) m c = output (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (norms (m ((c.tc : Thread nD τ).loc main_arg1)) (m ((c.tc : Thread nD τ).loc main_arg2))
      (m ((c.tc : Thread nD τ).loc main_arg3)) (m ((c.tc : Thread nD τ).loc main_arg4))) := rfl

end Cert.ReferenceIdeal.Val
end
-- ==== Proof.Tail.lean ====
/- The kernel program's two results, over the arguments, and their equality with the reference's. -/
module

public import proofs.«01_k».proof.Proof.Final
public import proofs.«01_k».proof.Proof.RefVal
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD)

/-- The output result is the output array with its rows cut into sixteen batches. -/
theorem tail_out : Pipeline.afterTail₀ cfgs (dats m) 0 (V0 m) [hostOps1] c main_v3
    = shapeCast S16x1024x8960 (outArr m c) shapeCasts_S16384x8960_S16x1024x8960 := by
  unfold Pipeline.afterTail₀
  simp only [hostOps1, List.flatten_cons, List.flatten_nil, List.append_nil]
  after_region_results
  rw [← final6]
  exact congrArg (fun A => shapeCast S16x1024x8960 A shapeCasts_S16384x8960_S16x1024x8960)
    (Pipeline.withArrays_arr spec0 launch0.win.arr_inj c (V0 m c) _ 6)

/-- The norms result is the array of norms as a vector. -/
theorem tail_norm : Pipeline.afterTail₀ cfgs (dats m) 0 (V0 m) [hostOps1] c main_v4
    = shapeCast S8960 (normArr m c) shapeCasts_S1x8960_S8960 := by
  unfold Pipeline.afterTail₀
  simp only [hostOps1, List.flatten_cons, List.flatten_nil, List.append_nil]
  after_region_results
  rw [← final7]
  exact congrArg (fun A => shapeCast S8960 A shapeCasts_S1x8960_S8960)
    (Pipeline.withArrays_arr spec0 launch0.win.arr_inj c (V0 m c) _ 7)

/-- The region finds the activations with their batches joined. -/
theorem V_v0 : aX m c = shapeCast S16384x1536 (m ((c.tc : Thread nD τ).loc main_arg0) : FVec Ideal S16x1024x1536 .bf16) shapeCasts_S16x1024x1536_S16384x1536 := by
  unfold aX V V0
  simp only [hostOps0, List.flatten_cons, List.flatten_nil, List.append_nil]
  after_region_results
  rfl

/-- The region finds the magnitudes as one row. -/
theorem V_v1 : aM m c = shapeCast S1x8960 (m ((c.tc : Thread nD τ).loc main_arg5) : FVec Ideal S8960 .f32) shapeCasts_S8960_S1x8960 := by
  unfold aM V V0
  simp only [hostOps0, List.flatten_cons, List.flatten_nil, List.append_nil]
  after_region_results
  rfl

/-! ## The reshapes read at an index -/

/-- Joining the batches: row `1024 a + b` of the joined activations is row `b` of batch `a`. -/
theorem join_at (x : FVec Ideal S16x1024x1536 .bf16) (a : Fin 16) (b : Fin 1024) (k : Fin 1536) :
    shapeCast S16384x1536 x shapeCasts_S16x1024x1536_S16384x1536 (ix2 ⟨1024 * a.val + b.val, by omega⟩ k) = x (ix3 a b k) := by
  pointwise

/-- A vector written as one row, read at a column. -/
theorem row_at (x : FVec Ideal S8960 .f32) (u : Fin 1) (n : Fin 8960) : shapeCast S1x8960 x shapeCasts_S8960_S1x8960 (ix2 u n) = x (ix1 n) := by
  pointwise

/-- Cutting the rows into batches: row `b` of batch `a` is row `1024 a + b`. -/
theorem split_at (x : FVec Ideal S16384x8960 .bf16) (a : Fin 16) (b : Fin 1024) (n : Fin 8960) :
    shapeCast S16x1024x8960 x shapeCasts_S16384x8960_S16x1024x8960 (ix3 a b n) = x (ix2 ⟨1024 * a.val + b.val, by omega⟩ n) := by
  have e : (⟨a.val * 1024 + b.val, by omega⟩ : Fin 16384) = ⟨1024 * a.val + b.val, by omega⟩ := Fin.ext (by
    show a.val * 1024 + b.val = 1024 * a.val + b.val
    omega)
  pointwise
  rw [e]

/-- One row written as a vector, read at a column. -/
theorem vec_at (x : FVec Ideal S1x8960 .f32) (n : Fin 8960) : shapeCast S8960 x shapeCasts_S1x8960_S8960 (ix1 n) = x (ix2 0 n) := by
  pointwise

/-! ## The two results over the arguments -/

/-- The activations as launched. -/
abbrev argX : FVec Ideal S16x1024x1536 .bf16 := m ((c.tc : Thread nD τ).loc main_arg0)
/-- The packed codes as launched. -/
abbrev argQ : IVec S768x8960 8 := m ((c.tc : Thread nD τ).loc main_arg1)
/-- The scales as launched. -/
abbrev argS : FVec Ideal S12x8960 .bf16 := m ((c.tc : Thread nD τ).loc main_arg2)
/-- The first low-rank factor as launched. -/
abbrev argA : FVec Ideal S1536x64 .bf16 := m ((c.tc : Thread nD τ).loc main_arg3)
/-- The second low-rank factor as launched. -/
abbrev argB : FVec Ideal S64x8960 .bf16 := m ((c.tc : Thread nD τ).loc main_arg4)
/-- The magnitudes as launched. -/
abbrev argM : FVec Ideal S8960 .f32 := m ((c.tc : Thread nD τ).loc main_arg5)

/-- The region finds the packed codes as launched. -/
theorem aQ_eq : aQ m c = argQ m c := V_main_arg1 m c
/-- The region finds the scales as launched. -/
theorem aS_eq : aS m c = argS m c := V_main_arg2 m c
/-- The region finds the first low-rank factor as launched. -/
theorem aA_eq : aA m c = argA m c := V_main_arg3 m c
/-- The region finds the second low-rank factor as launched. -/
theorem aB_eq : aB m c = argB m c := V_main_arg4 m c

/-- The joined activations at an index, over the argument. -/
theorem aX_at (a : Fin 16) (b : Fin 1024) (k : Fin 1536) :
    aX m c (ix2 ⟨1024 * a.val + b.val, by omega⟩ k) = argX m c (ix3 a b k) := by
  rw [V_v0]
  exact join_at _ a b k

/-- The row of magnitudes at a column, over the argument. -/
theorem aM_at (n : Fin 8960) : aM m c (ix2 0 n) = argM m c (ix1 n) := by
  rw [V_v1]
  exact row_at _ 0 n

/-- The kernel's norms are the reference's, over the same arguments. -/
theorem norm_ref : Pipeline.afterTail₀ cfgs (dats m) 0 (V0 m) [hostOps1] c main_v4
    = Cert.ReferenceIdeal.Val.norms (argQ m c) (argS m c) (argA m c) (argB m c) := by
  rw [tail_norm]
  funext i
  obtain ⟨n, rfl⟩ : ∃ n : Fin 8960, i = ix1 n := ⟨i 0, (ix1_eta i).symm⟩
  refine (vec_at (normArr m c) n).trans (Eq.trans ?_ (Cert.ReferenceIdeal.Val.norms_at _ _ _ _ n).symm)
  rw [← aQ_eq, ← aS_eq, ← aA_eq, ← aB_eq]
  rfl

/-- The kernel's output is the reference's, over the same arguments. -/
theorem out_ref : Pipeline.afterTail₀ cfgs (dats m) 0 (V0 m) [hostOps1] c main_v3
    = Cert.ReferenceIdeal.Val.output (argX m c) (argQ m c) (argS m c) (argA m c) (argB m c) (argM m c)
        (Cert.ReferenceIdeal.Val.norms (argQ m c) (argS m c) (argA m c) (argB m c)) := by
  rw [tail_out]
  funext i
  obtain ⟨a, b, n, rfl⟩ : ∃ (a : Fin 16) (b : Fin 1024) (n : Fin 8960), i = ix3 a b n := ⟨i 0, i 1, i 2, (ix3_eta i).symm⟩
  refine (split_at (outArr m c) a b n).trans (Eq.trans ?_ (Cert.ReferenceIdeal.Val.output_norms_at _ _ _ _ _ _ a b n).symm)
  rw [← aQ_eq, ← aS_eq, ← aA_eq, ← aB_eq, ← aM_at]
  refine congrArg (fun x => Spec.out x _ _ _ _ _) (funext fun k => ?_)
  exact aX_at m c a b k

end Cert.KernelIdeal.Val
end
-- ==== Proof.lean ====
/- The certificate: the kernel, its idealization and the plain reference run without fault, leave their arguments
   unchanged and every counter at zero; and the idealized kernel and the reference end with equal results. The three
   programs' stated facts come first. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Tail
public import Idealize.ShloMosaic.Adequacy
public import Idealize.ShloMosaic.Init

@[expose] public section

noncomputable section

namespace Cert.Proof

open Idealize.ShloMosaic Idealize.SL.Sem Cert.Kernel

/-- The reference's frame: it declares no semaphore, so its counters are zero. -/
theorem reference_frame : Cert.quiescent_ReferenceIdeal (hReferenceIdeal := Cert.ReferenceIdeal.Gen.facts) := by
  intro m g _
  refine (θ_run _ _ _).mono (fun r h => ⟨fun c => (h c).2.2, sem_eq_zero_of_no_sems (by decide) _⟩)
    (Cert.ReferenceIdeal.Value.run m g)

/-- The kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Pipeline.afterTail₀ Cert.KernelIdeal.cfgs (Cert.KernelIdeal.Val.dats m) 0 (Cert.KernelIdeal.Gen.V0 m) [Cert.KernelIdeal.Gen.hostOps1] c Cert.KernelIdeal.main_v3,
    fun c => Pipeline.afterTail₀ Cert.KernelIdeal.cfgs (Cert.KernelIdeal.Val.dats m) 0 (Cert.KernelIdeal.Gen.V0 m) [Cert.KernelIdeal.Gen.hostOps1] c Cert.KernelIdeal.main_v4, ?_, ?_⟩
  · have h₂ := θ_run_and (Cert.KernelIdeal.Val.run_main (F := Ideal) m g) (Cert.KernelIdeal.Val.frame m g)
    exact (θ_run _ _ _).mono (fun r h c => ⟨(h.1 c).2 _ (Pipeline.mem_restRefs_of Cert.KernelIdeal.main_v3 (by decide) (by decide)),
      (h.1 c).2 _ (Pipeline.mem_restRefs_of Cert.KernelIdeal.main_v4 (by decide) (by decide)), h.2.1 c⟩) h₂
  · refine (θ_run _ _ _).mono (fun r h c => ⟨(h c).1.trans ?_, (h c).2.1.trans ?_, (h c).2.2⟩) (Cert.ReferenceIdeal.Value.run m' g')
    · refine Eq.trans ?_ (Cert.KernelIdeal.Val.out_ref m c).symm
      rw [Cert.ReferenceIdeal.Val.res_output, (hagree c).1, (hagree c).2.1, (hagree c).2.2.1, (hagree c).2.2.2.1,
        (hagree c).2.2.2.2.1, (hagree c).2.2.2.2.2]
    · refine Eq.trans ?_ (Cert.KernelIdeal.Val.norm_ref m c).symm
      rw [Cert.ReferenceIdeal.Val.res_norm, (hagree c).2.1, (hagree c).2.2.1, (hagree c).2.2.2.1,
        (hagree c).2.2.2.2.1]

/-- The certificate's claim. -/
theorem claim : Cert.Claim := ⟨Cert.Kernel.Gen.facts, Cert.KernelIdeal.Gen.facts, Cert.ReferenceIdeal.Gen.facts,
  Cert.Kernel.Val.frame, fun m g _ => Cert.KernelIdeal.Val.frame m g, reference_frame, trivial, algebraic⟩

end Cert.Proof

end
